-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2)
      ∧ r.2.mem ((c.tc : Thread Cert.RefInProjIdeal.nD Cert.RefInProjIdeal.τ).loc Cert.RefInProjIdeal.main_arg3) = m ((c.tc : Thread Cert.RefInProjIdeal.nD Cert.RefInProjIdeal.τ).loc Cert.RefInProjIdeal.main_arg3)
      ∧ r.2.mem ((c.tc : Thread Cert.RefInProjIdeal.nD Cert.RefInProjIdeal.τ).loc Cert.RefInProjIdeal.main_arg4) = m ((c.tc : Thread Cert.RefInProjIdeal.nD Cert.RefInProjIdeal.τ).loc Cert.RefInProjIdeal.main_arg4)
      ∧ r.2.mem ((c.tc : Thread Cert.RefInProjIdeal.nD Cert.RefInProjIdeal.τ).loc Cert.RefInProjIdeal.main_arg5) = m ((c.tc : Thread Cert.RefInProjIdeal.nD Cert.RefInProjIdeal.τ).loc Cert.RefInProjIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2)
      ∧ r.2.mem ((c.tc : Thread Cert.RefOutProjIdeal.nD Cert.RefOutProjIdeal.τ).loc Cert.RefOutProjIdeal.main_arg3) = m ((c.tc : Thread Cert.RefOutProjIdeal.nD Cert.RefOutProjIdeal.τ).loc Cert.RefOutProjIdeal.main_arg3)
      ∧ r.2.mem ((c.tc : Thread Cert.RefOutProjIdeal.nD Cert.RefOutProjIdeal.τ).loc Cert.RefOutProjIdeal.main_arg4) = m ((c.tc : Thread Cert.RefOutProjIdeal.nD Cert.RefOutProjIdeal.τ).loc Cert.RefOutProjIdeal.main_arg4)
      ∧ r.2.mem ((c.tc : Thread Cert.RefOutProjIdeal.nD Cert.RefOutProjIdeal.τ).loc Cert.RefOutProjIdeal.main_arg5) = m ((c.tc : Thread Cert.RefOutProjIdeal.nD Cert.RefOutProjIdeal.τ).loc Cert.RefOutProjIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v35) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5))

def preserves_InProj_InProjIdeal : Prop :=
  IdealRules.named_const.Statement Cert.InProjIdeal.κ "qscale" .f32 0x3E0293EE#32 ((((Real.sqrt 128) * (Real.log 2))⁻¹ : ℝ) : EReal)

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)
      ∧ m' ((c.tc : Thread Cert.RefInProjIdeal.nD Cert.RefInProjIdeal.τ).loc Cert.RefInProjIdeal.main_arg2) = m ((c.tc : Thread Cert.InProjIdeal.nD Cert.InProjIdeal.τ).loc Cert.InProjIdeal.main_arg2)
      ∧ m' ((c.tc : Thread Cert.RefInProjIdeal.nD Cert.RefInProjIdeal.τ).loc Cert.RefInProjIdeal.main_arg3) = m ((c.tc : Thread Cert.InProjIdeal.nD Cert.InProjIdeal.τ).loc Cert.InProjIdeal.main_arg3)
      ∧ m' ((c.tc : Thread Cert.RefInProjIdeal.nD Cert.RefInProjIdeal.τ).loc Cert.RefInProjIdeal.main_arg4) = m ((c.tc : Thread Cert.InProjIdeal.nD Cert.InProjIdeal.τ).loc Cert.InProjIdeal.main_arg4)
      ∧ m' ((c.tc : Thread Cert.RefInProjIdeal.nD Cert.RefInProjIdeal.τ).loc Cert.RefInProjIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v59) = v0 c
          ∧ r.2.mem ((c.tc : Thread Cert.RefInProjIdeal.nD Cert.RefInProjIdeal.τ).loc Cert.RefInProjIdeal.main_v58) = v1 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1)
          ∧ r.2.mem ((c.tc : Thread Cert.RefInProjIdeal.nD Cert.RefInProjIdeal.τ).loc Cert.RefInProjIdeal.main_arg2) = m' ((c.tc : Thread Cert.RefInProjIdeal.nD Cert.RefInProjIdeal.τ).loc Cert.RefInProjIdeal.main_arg2)
          ∧ r.2.mem ((c.tc : Thread Cert.RefInProjIdeal.nD Cert.RefInProjIdeal.τ).loc Cert.RefInProjIdeal.main_arg3) = m' ((c.tc : Thread Cert.RefInProjIdeal.nD Cert.RefInProjIdeal.τ).loc Cert.RefInProjIdeal.main_arg3)
          ∧ r.2.mem ((c.tc : Thread Cert.RefInProjIdeal.nD Cert.RefInProjIdeal.τ).loc Cert.RefInProjIdeal.main_arg4) = m' ((c.tc : Thread Cert.RefInProjIdeal.nD Cert.RefInProjIdeal.τ).loc Cert.RefInProjIdeal.main_arg4)
          ∧ r.2.mem ((c.tc : Thread Cert.RefInProjIdeal.nD Cert.RefInProjIdeal.τ).loc Cert.RefInProjIdeal.main_arg5) = m' ((c.tc : Thread Cert.RefInProjIdeal.nD Cert.RefInProjIdeal.τ).loc Cert.RefInProjIdeal.main_arg5))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)
      ∧ m' ((c.tc : Thread Cert.RefOutProjIdeal.nD Cert.RefOutProjIdeal.τ).loc Cert.RefOutProjIdeal.main_arg3) = m ((c.tc : Thread Cert.OutProjIdeal.nD Cert.OutProjIdeal.τ).loc Cert.OutProjIdeal.main_arg3)
      ∧ m' ((c.tc : Thread Cert.RefOutProjIdeal.nD Cert.RefOutProjIdeal.τ).loc Cert.RefOutProjIdeal.main_arg4) = m ((c.tc : Thread Cert.OutProjIdeal.nD Cert.OutProjIdeal.τ).loc Cert.OutProjIdeal.main_arg4)
      ∧ m' ((c.tc : Thread Cert.RefOutProjIdeal.nD Cert.RefOutProjIdeal.τ).loc Cert.RefOutProjIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v32) = v0 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2)
          ∧ r.2.mem ((c.tc : Thread Cert.RefOutProjIdeal.nD Cert.RefOutProjIdeal.τ).loc Cert.RefOutProjIdeal.main_arg3) = m' ((c.tc : Thread Cert.RefOutProjIdeal.nD Cert.RefOutProjIdeal.τ).loc Cert.RefOutProjIdeal.main_arg3)
          ∧ r.2.mem ((c.tc : Thread Cert.RefOutProjIdeal.nD Cert.RefOutProjIdeal.τ).loc Cert.RefOutProjIdeal.main_arg4) = m' ((c.tc : Thread Cert.RefOutProjIdeal.nD Cert.RefOutProjIdeal.τ).loc Cert.RefOutProjIdeal.main_arg4)
          ∧ r.2.mem ((c.tc : Thread Cert.RefOutProjIdeal.nD Cert.RefOutProjIdeal.τ).loc Cert.RefOutProjIdeal.main_arg5) = m' ((c.tc : Thread Cert.RefOutProjIdeal.nD Cert.RefOutProjIdeal.τ).loc Cert.RefOutProjIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hRefFfnIdeal : Cert.RefFfnIdeal.Facts) (hInProj : Cert.InProj.Facts) (hInProjIdeal : Cert.InProjIdeal.Facts) (hRefInProjIdeal : Cert.RefInProjIdeal.Facts) (hOutProj : Cert.OutProj.Facts) (hOutProjIdeal : Cert.OutProjIdeal.Facts) (hRefOutProjIdeal : Cert.RefOutProjIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn (hFfn := hFfn)
    ∧ quiescent_FfnIdeal (hFfnIdeal := hFfnIdeal)
    ∧ quiescent_RefFfnIdeal (hRefFfnIdeal := hRefFfnIdeal)
    ∧ quiescent_InProj (hInProj := hInProj)
    ∧ quiescent_InProjIdeal (hInProjIdeal := hInProjIdeal)
    ∧ quiescent_RefInProjIdeal (hRefInProjIdeal := hRefInProjIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn_FfnIdeal
    ∧ algebraic_FfnIdeal_RefFfnIdeal (hFfnIdeal := hFfnIdeal) (hRefFfnIdeal := hRefFfnIdeal)
    ∧ preserves_InProj_InProjIdeal
    ∧ algebraic_InProjIdeal_RefInProjIdeal (hInProjIdeal := hInProjIdeal) (hRefInProjIdeal := hRefInProjIdeal)
    ∧ preserves_OutProj_OutProjIdeal
    ∧ algebraic_OutProjIdeal_RefOutProjIdeal (hOutProjIdeal := hOutProjIdeal) (hRefOutProjIdeal := hRefOutProjIdeal)
-- ==== Pre_finite_qk.lean ====
abbrev S40x8192x128 : Shape := ⟨3, ![40, 8192, 128]⟩
abbrev S12x8192x128 : Shape := ⟨3, ![12, 8192, 128]⟩
abbrev S_ : Shape := ⟨0, ![]⟩

class Facts : Prop where
  slices_S40x8192x128_S12x8192x128_0_0_0 : S40x8192x128.Slices ![0, 0, 0] S12x8192x128
  bitsLt_bf16_f32 : FTy.bits .bf16 < FTy.bits .f32
  bcast_S_S12x8192x128 : S_.BroadcastsInDim S12x8192x128 (![] : Fin 0 → Fin S12x8192x128.rank)
  reducesTo_S12x8192x128_S_d0_1_2 : S12x8192x128.ReducesTo [0, 1, 2] S_
  h_S_ : 0 < S_.numel

variable [Facts]

def fn {F : FTy → Type} [FloatOps F] (main_arg0 : FVec F S40x8192x128 .bf16) : IVec S_ 1 :=
  let main_v0 : FVec F S12x8192x128 .bf16 := (extractStridedSlice S12x8192x128 ![0, 0, 0] · slices_S40x8192x128_S12x8192x128_0_0_0) main_arg0
  let main_v1 : FVec F S12x8192x128 .f32 := (extf .f32 · bitsLt_bf16_f32) main_v0
  let main_v2 : FVec F S12x8192x128 .f32 := Host.absf main_v1
  let main_cst : FVec F S_ .f32 := constant S_ .f32 0x7F800000#32
  let main_v3 : FVec F S12x8192x128 .f32 := broadcastInDim S12x8192x128 ![] bcast_S_S12x8192x128 main_cst
  let main_v4 : IVec S12x8192x128 1 := cmpf .olt main_v2 main_v3
  let main_c : IVec S_ 1 := constantI S_ 1 1#1
  let main_v5 : IVec S_ 1 := (fun x v => Host.reduce IntOp.andi x v reducesTo_S12x8192x128_S_d0_1_2 h_S_) main_v4 main_c
  main_v5
-- ==== Kernel.lean ====
abbrev S40x8192x128 : Shape := ⟨3, ![40, 8192, 128]⟩
abbrev S8192x768 : Shape := ⟨2, ![8192, 768]⟩
abbrev S1x8192x128 : Shape := ⟨3, ![1, 8192, 128]⟩
abbrev S8192x128 : Shape := ⟨2, ![8192, 128]⟩
abbrev S256x2304 : Shape := ⟨2, ![256, 2304]⟩
abbrev S1x256x128 : Shape := ⟨3, ![1, 256, 128]⟩
abbrev S256x128 : Shape := ⟨2, ![256, 128]⟩
abbrev S256x256 : Shape := ⟨2, ![256, 256]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩
abbrev S1x2048x128 : Shape := ⟨3, ![1, 2048, 128]⟩
abbrev S2048x128 : Shape := ⟨2, ![2048, 128]⟩
abbrev S256x2048 : Shape := ⟨2, ![256, 2048]⟩
abbrev S1x2304x128 : Shape := ⟨3, ![1, 2304, 128]⟩
abbrev S2304x128 : Shape := ⟨2, ![2304, 128]⟩

abbrev nBuf : Space → Nat
  | .hbm => 2
  | .vmem => 11
  | .smem => 0
  | _ => 0

abbrev bufTy : (tb : Table) → Fin (tcTables nBuf tb) → BufTy
  | .hbm, ⟨0, _⟩ => ⟨S40x8192x128, .bf16⟩
  | .hbm, ⟨1, _⟩ => ⟨S8192x768, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S8192x128, .bf16⟩
  | .local _ .vmem, ⟨7, _⟩ => ⟨S8192x128, .bf16⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | _, _ => ⟨S40x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![6], ![false]⟩

@[reducible] def k0_t1_loop : Scf.Loop 32 :=
  let c4_i32 : BitVec 32 := 4#32
  let c11_i32 : BitVec 32 := 11#32
  let v221 : BitVec 32 := Scalar.addi c4_i32 c11_i32
  let c1_i32 : BitVec 32 := 1#32
  ⟨c4_i32, v221, c1_i32⟩
def k0_mult1 (k0_t1 : Fin k0_t1_loop.trips) : BitVec 32 :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c1_i32_198 : BitVec 32 := 1#32
  let v265 : BitVec 32 := Scalar.addi v264 c1_i32_198
  let c256_i32 : BitVec 32 := 256#32
  let v266 : BitVec 32 := Scalar.muli v265 c256_i32
  let c2048_i32 : BitVec 32 := 2048#32
  let v267 : BitVec 32 := Scalar.subi v266 c2048_i32
  v267
def k0_mult2 (k0_t1 : Fin k0_t1_loop.trips) : BitVec 32 :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c1_i32_198 : BitVec 32 := 1#32
  let v265 : BitVec 32 := Scalar.addi v264 c1_i32_198
  let c256_i32_199 : BitVec 32 := 256#32
  let v269 : BitVec 32 := Scalar.muli v265 c256_i32_199
  v269
def k0_off1 (k0_t1 : Fin k0_t1_loop.trips) (c1_i32_198 : BitVec 32) : Fin 3 → Nat :=
  let c0_200 : Index := 0#32
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let v265 : BitVec 32 := Scalar.addi v264 c1_i32_198
  let c256_i32_199 : BitVec 32 := 256#32
  let v269 : BitVec 32 := Scalar.muli v265 c256_i32_199
  let v270 : BitVec 32 := v269
  let v271 : Index := Scalar.indexCast v270
  let c0_201 : Index := 0#32
  ![0, v271.toNat, 0]
def k0_off2 (k0_t1 : Fin k0_t1_loop.trips) (c1_i32_198 : BitVec 32) : Fin 3 → Nat :=
  let c0_202 : Index := 0#32
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let v265 : BitVec 32 := Scalar.addi v264 c1_i32_198
  let c256_i32 : BitVec 32 := 256#32
  let v266 : BitVec 32 := Scalar.muli v265 c256_i32
  let c2048_i32 : BitVec 32 := 2048#32
  let v267 : BitVec 32 := Scalar.subi v266 c2048_i32
  let v268 : BitVec 32 := v267
  let v274 : Index := Scalar.indexCast v268
  let c0_203 : Index := 0#32
  ![0, v274.toNat, 0]
def k0_mult3 (k0_t1 : Fin k0_t1_loop.trips) : BitVec 32 :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c256_i32_209 : BitVec 32 := 256#32
  let v283 : BitVec 32 := Scalar.muli v264 c256_i32_209
  let c2048_i32_210 : BitVec 32 := 2048#32
  let v284 : BitVec 32 := Scalar.subi v283 c2048_i32_210
  v284
def k0_mult4 (k0_t1 : Fin k0_t1_loop.trips) : BitVec 32 :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c256_i32_211 : BitVec 32 := 256#32
  let v286 : BitVec 32 := Scalar.muli v264 c256_i32_211
  v286
def k0_off3 (k0_t1 : Fin k0_t1_loop.trips) : Fin 3 → Nat :=
  let c0_216 : Index := 0#32
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c256_i32_209 : BitVec 32 := 256#32
  let v283 : BitVec 32 := Scalar.muli v264 c256_i32_209
  let c2048_i32_210 : BitVec 32 := 2048#32
  let v284 : BitVec 32 := Scalar.subi v283 c2048_i32_210
  let v285 : BitVec 32 := v284
  let v297 : Index := Scalar.indexCast v285
  let c0_217 : Index := 0#32
  ![0, v297.toNat, 0]
def k0_off4 (k0_t1 : Fin k0_t1_loop.trips) : Fin 2 → Nat :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c256_i32_211 : BitVec 32 := 256#32
  let v286 : BitVec 32 := Scalar.muli v264 c256_i32_211
  let v287 : BitVec 32 := v286
  let v304 : Index := Scalar.indexCast v287
  let c0_219 : Index := 0#32
  ![v304.toNat, 0]
def k0_mult5 (k0_t1 : Fin k0_t1_loop.trips) : BitVec 32 :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c2_i32_220 : BitVec 32 := 2#32
  let v306 : BitVec 32 := Scalar.addi v264 c2_i32_220
  let c256_i32_221 : BitVec 32 := 256#32
  let v307 : BitVec 32 := Scalar.muli v306 c256_i32_221
  let c2048_i32_222 : BitVec 32 := 2048#32
  let v308 : BitVec 32 := Scalar.subi v307 c2048_i32_222
  v308
def k0_mult6 (k0_t1 : Fin k0_t1_loop.trips) : BitVec 32 :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c2_i32_220 : BitVec 32 := 2#32
  let v306 : BitVec 32 := Scalar.addi v264 c2_i32_220
  let c256_i32_223 : BitVec 32 := 256#32
  let v310 : BitVec 32 := Scalar.muli v306 c256_i32_223
  v310
def k0_mult7 (k0_t1 : Fin k0_t1_loop.trips) : BitVec 32 :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c1_i32_233 : BitVec 32 := 1#32
  let v324 : BitVec 32 := Scalar.addi v264 c1_i32_233
  let c256_i32_234 : BitVec 32 := 256#32
  let v325 : BitVec 32 := Scalar.muli v324 c256_i32_234
  let c2048_i32_235 : BitVec 32 := 2048#32
  let v326 : BitVec 32 := Scalar.subi v325 c2048_i32_235
  v326
def k0_mult8 (k0_t1 : Fin k0_t1_loop.trips) : BitVec 32 :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c1_i32_233 : BitVec 32 := 1#32
  let v324 : BitVec 32 := Scalar.addi v264 c1_i32_233
  let c256_i32_236 : BitVec 32 := 256#32
  let v328 : BitVec 32 := Scalar.muli v324 c256_i32_236
  v328
def k0_off5 (k0_t1 : Fin k0_t1_loop.trips) : Fin 2 → Nat :=
  let c2_i32 : BitVec 32 := 2#32
  let c4_i32 : BitVec 32 := 4#32
  let c1_i32 : BitVec 32 := 1#32
  let arg8 : BitVec 32 := Scf.iv c4_i32 c1_i32 k0_t1
  let v264 : BitVec 32 := Scalar.muli c2_i32 arg8
  let c1_i32_233 : BitVec 32 := 1#32
  let v324 : BitVec 32 := Scalar.addi v264 c1_i32_233
  let c256_i32_236 : BitVec 32 := 256#32
  let v328 : BitVec 32 := Scalar.muli v324 c256_i32_236
  let v329 : BitVec 32 := v328
  let v346 : Index := Scalar.indexCast v329
  let c0_244 : Index := 0#32
  ![v346.toNat, 0]
def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 3 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S40x8192x128 : Shape := ⟨3, ![40, 8192, 128]⟩
abbrev S3 : Shape := ⟨1, ![3]⟩
abbrev S6x8192x128 : Shape := ⟨3, ![6, 8192, 128]⟩
abbrev S6x8192x8192 : Shape := ⟨3, ![6, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x1x1 : Shape := ⟨3, ![3, 1, 1]⟩
abbrev S1x8192x8192 : Shape := ⟨3, ![1, 8192, 8192]⟩
abbrev S3x8192x8192 : Shape := ⟨3, ![3, 8192, 8192]⟩
abbrev S3x1x8192x8192 : Shape := ⟨4, ![3, 1, 8192, 8192]⟩
abbrev S3x6x8192x8192 : Shape := ⟨4, ![3, 6, 8192, 8192]⟩
abbrev S3x6x8192 : Shape := ⟨3, ![3, 6, 8192]⟩
abbrev S3x6x8192x1 : Shape := ⟨4, ![3, 6, 8192, 1]⟩
abbrev S6x128x3x8192 : Shape := ⟨4, ![6, 128, 3, 8192]⟩
abbrev S3x6x8192x128 : Shape := ⟨4, ![3, 6, 8192, 128]⟩
abbrev S6x8192x1 : Shape := ⟨3, ![6, 8192, 1]⟩
abbrev S1x6x8192x1 : Shape := ⟨4, ![1, 6, 8192, 1]⟩
abbrev S8192x6x128 : Shape := ⟨3, ![8192, 6, 128]⟩
abbrev S8192x768 : Shape := ⟨2, ![8192, 768]⟩

abbrev nBuf : Space → Nat
  | .hbm => 82
  | .vmem => 0
  | .smem => 0
  | _ => 0

abbrev bufTy : (tb : Table) → Fin (tcTables nBuf tb) → BufTy
  | .hbm, ⟨0, _⟩ => ⟨S40x8192x128, .bf16⟩
  | .hbm, ⟨1, _⟩ => ⟨S3, .i32⟩
  | .hbm, ⟨2, _⟩ => ⟨S3, .i32⟩
  | .hbm, ⟨3, _⟩ => ⟨S40x8192x128, .f32⟩
  | .hbm, ⟨4, _⟩ => ⟨S6x8192x128, .f32⟩
  | .hbm, ⟨5, _⟩ => ⟨S6x8192x128, .f32⟩
  | .hbm, ⟨6, _⟩ => ⟨S6x8192x128, .f32⟩
  | .hbm, ⟨7, _⟩ => ⟨S6x8192x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S6x8192x8192, .f32⟩
  | .hbm, ⟨12, _⟩ => ⟨S6x8192x8192, .f32⟩
  | .hbm, ⟨13, _⟩ => ⟨S8192, .i32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i32⟩
  | .hbm, ⟨19, _⟩ => ⟨S3x1x1, .i32⟩
  | .hbm, ⟨20, _⟩ => ⟨S3x1x1, .i32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S1x8192x8192, .i32⟩
  | .hbm, ⟨25, _⟩ => ⟨S3x8192x8192, .i32⟩
  | .hbm, ⟨26, _⟩ => ⟨S3x8192x8192, .i32⟩
  | .hbm, ⟨27, _⟩ => ⟨S3x8192x8192, .i1⟩
  | .hbm, ⟨28, _⟩ => ⟨S1x8192x8192, .i1⟩
  | .hbm, ⟨29, _⟩ => ⟨S3x8192x8192, .i1⟩
  | .hbm, ⟨30, _⟩ => ⟨S3x8192x8192, .i1⟩
  | .hbm, ⟨31, _⟩ => ⟨S1x8192x8192, .i32⟩
  | .hbm, ⟨32, _⟩ => ⟨S3x8192x8192, .i32⟩
  | .hbm, ⟨33, _⟩ => ⟨S3x8192x8192, .i32⟩
  | .hbm, ⟨34, _⟩ => ⟨S3x8192x8192, .i32⟩
  | .hbm, ⟨35, _⟩ => ⟨S_, .i32⟩
  | .hbm, ⟨36, _⟩ => ⟨S3x8192x8192, .i32⟩
  | .hbm, ⟨37, _⟩ => ⟨S3x8192x8192, .i1⟩
  | .hbm, ⟨38, _⟩ => ⟨S3x8192x8192, .i1⟩
  | .hbm, ⟨39, _⟩ => ⟨S3x1x8192x8192, .i1⟩
  | .hbm, ⟨40, _⟩ => ⟨S_, .f32⟩
  | .hbm, ⟨41, _⟩ => ⟨S_, .f32⟩
  | .hbm, ⟨42, _⟩ => ⟨S3x6x8192x8192, .i1⟩
  | .hbm, ⟨43, _⟩ => ⟨S3x6x8192x8192, .f32⟩
  | .hbm, ⟨44, _⟩ => ⟨S3x6x8192x8192, .f32⟩
  | .hbm, ⟨45, _⟩ => ⟨S3x6x8192x8192, .f32⟩
  | .hbm, ⟨46, _⟩ => ⟨S_, .f32⟩
  | .hbm, ⟨47, _⟩ => ⟨S3x6x8192, .f32⟩
  | .hbm, ⟨48, _⟩ => ⟨S3x6x8192x1, .f32⟩
  | .hbm, ⟨49, _⟩ => ⟨S3x6x8192x8192, .f32⟩
  | .hbm, ⟨50, _⟩ => ⟨S3x6x8192x8192, .f32⟩
  | .hbm, ⟨51, _⟩ => ⟨S3x6x8192x8192, .f32⟩
  | .hbm, ⟨52, _⟩ => ⟨S_, .f32⟩
  | .hbm, ⟨53, _⟩ => ⟨S3x6x8192, .f32⟩
  | .hbm, ⟨54, _⟩ => ⟨S3x6x8192x1, .f32⟩
  | .hbm, ⟨55, _⟩ => ⟨S6x128x3x8192, .f32⟩
  | .hbm, ⟨56, _⟩ => ⟨S3x6x8192x128, .f32⟩
  | .hbm, ⟨57, _⟩ => ⟨S3x6x8192x128, .f32⟩
  | .hbm, ⟨58, _⟩ => ⟨S3x6x8192x128, .f32⟩
  | .hbm, ⟨59, _⟩ => ⟨S3x6x8192x1, .f32⟩
  | .hbm, ⟨60, _⟩ => ⟨S3x6x8192x1, .f32⟩
  | .hbm, ⟨61, _⟩ => ⟨S_, .f32⟩
  | .hbm, ⟨62, _⟩ => ⟨S6x8192x1, .f32⟩
  | .hbm, ⟨63, _⟩ => ⟨S_, .f32⟩
  | .hbm, ⟨64, _⟩ => ⟨S6x8192x1, .f32⟩
  | .hbm, ⟨65, _⟩ => ⟨S6x8192x1, .f32⟩
  | .hbm, ⟨66, _⟩ => ⟨S1x6x8192x1, .f32⟩
  | .hbm, ⟨67, _⟩ => ⟨S3x6x8192x1, .f32⟩
  | .hbm, ⟨68, _⟩ => ⟨S3x6x8192x1, .f32⟩
  | .hbm, ⟨69, _⟩ => ⟨S3x6x8192x1, .f32⟩
  | .hbm, ⟨70, _⟩ => ⟨S_, .f32⟩
  | .hbm, ⟨71, _⟩ => ⟨S6x8192x1, .f32⟩
  | .hbm, ⟨72, _⟩ => ⟨S1x6x8192x1, .f32⟩
  | .hbm, ⟨73, _⟩ => ⟨S3x6x8192x1, .f32⟩
  | .hbm, ⟨74, _⟩ => ⟨S3x6x8192x1, .f32⟩
  | .hbm, ⟨75, _⟩ => ⟨S3x6x8192x128, .f32⟩
  | .hbm, ⟨76, _⟩ => ⟨S3x6x8192x128, .f32⟩
  | .hbm, ⟨77, _⟩ => ⟨S_, .f32⟩
  | .hbm, ⟨78, _⟩ => ⟨S6x8192x128, .f32⟩
  | .hbm, ⟨79, _⟩ => ⟨S8192x6x128, .f32⟩
  | .hbm, ⟨80, _⟩ => ⟨S8192x768, .f32⟩
  | .hbm, ⟨81, _⟩ => ⟨S8192x768, .bf16⟩
  | _, _ => ⟨S40x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefFfnIdeal.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S2048 : Shape := ⟨1, ![2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== InProj.lean ====
abbrev S8192x2048 : Shape := ⟨2, ![8192, 2048]⟩
abbrev S5150x2048 : Shape := ⟨2, ![5150, 2048]⟩
abbrev S8192x128 : Shape := ⟨2, ![8192, 128]⟩
abbrev S256x2048 : Shape := ⟨2, ![256, 2048]⟩
abbrev S1x256 : Shape := ⟨2, ![1, 256]⟩
abbrev S40x8192x128 : Shape := ⟨3, ![40, 8192, 128]⟩
abbrev S8192x256 : Shape := ⟨2, ![8192, 256]⟩
abbrev S1024x2048 : Shape := ⟨2, ![1024, 2048]⟩
abbrev S1024x128 : Shape := ⟨2, ![1024, 128]⟩
abbrev S8x1024x128 : Shape := ⟨3, ![8, 1024, 128]⟩
abbrev S1024x256 : Shape := ⟨2, ![1024, 256]⟩
abbrev S1x1024x128 : Shape := ⟨3, ![1, 1024, 128]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S5150x2048, .bf16⟩
  | .hbm, ⟨2, _⟩ => ⟨S8192x128, .f32⟩
  | .hbm, ⟨3, _⟩ => ⟨S8192x128, .f32⟩
  | .hbm, ⟨4, _⟩ => ⟨S256x2048, .bf16⟩
  | .hbm, ⟨5, _⟩ => ⟨S1x256, .f32⟩
  | .hbm, ⟨6, _⟩ => ⟨S40x8192x128, .bf16⟩
  | .hbm, ⟨7, _⟩ => ⟨S8192x256, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S256x2048, .bf16⟩
  | .local _ .vmem, ⟨9, _⟩ => ⟨S1x256, .f32⟩
  | .local _ .vmem, ⟨10, _⟩ => ⟨S8x1024x128, .bf16⟩
  | .local _ .vmem, ⟨11, _⟩ => ⟨S8x1024x128, .bf16⟩
  | .local _ .vmem, ⟨12, _⟩ => ⟨S1024x256, .f32⟩
  | .local _ .vmem, ⟨13, _⟩ => ⟨S1024x256, .f32⟩
  | .local _ .vmem, ⟨14, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InProjIdeal.lean ====
variable {F : FTy → Type} [FloatOps F] [Named F]
def κ : String → Option EReal := fun
  | "qscale" => some ((((Real.sqrt 128) * (Real.log 2))⁻¹ : ℝ) : EReal)
  | _ => none
-- ==== RefInProjIdeal.lean ====
abbrev S8192x2048 : Shape := ⟨2, ![8192, 2048]⟩
abbrev S5150x2048 : Shape := ⟨2, ![5150, 2048]⟩
abbrev S8192x128 : Shape := ⟨2, ![8192, 128]⟩
abbrev S256x2048 : Shape := ⟨2, ![256, 2048]⟩
abbrev S1x256 : Shape := ⟨2, ![1, 256]⟩
abbrev S5120x2048 : Shape := ⟨2, ![5120, 2048]⟩
abbrev S2048x5120 : Shape := ⟨2, ![2048, 5120]⟩
abbrev S8192x5120 : Shape := ⟨2, ![8192, 5120]⟩
abbrev S8192x40x128 : Shape := ⟨3, ![8192, 40, 128]⟩
abbrev S40x8192x128 : Shape := ⟨3, ![40, 8192, 128]⟩
abbrev S40x8192x64 : Shape := ⟨3, ![40, 8192, 64]⟩
abbrev S8192x64 : Shape := ⟨2, ![8192, 64]⟩
abbrev S1x8192x64 : Shape := ⟨3, ![1, 8192, 64]⟩
abbrev S_ : Shape := ⟨0, ![]⟩
abbrev S6x8192x128 : Shape := ⟨3, ![6, 8192, 128]⟩
abbrev S10x8192x128 : Shape := ⟨3, ![10, 8192, 128]⟩
abbrev S4x8192x128 : Shape := ⟨3, ![4, 8192, 128]⟩
abbrev S2x8192x128 : Shape := ⟨3, ![2, 8192, 128]⟩
abbrev S2048x256 : Shape := ⟨2, ![2048, 256]⟩
abbrev S8192x256 : Shape := ⟨2, ![8192, 256]⟩
abbrev S256 : Shape := ⟨1, ![256]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5150x2048, .bf16⟩
  | .hbm, ⟨2, _⟩ => ⟨S8192x128, .f32⟩
  | .hbm, ⟨3, _⟩ => ⟨S8192x128, .f32⟩
  | .hbm, ⟨4, _⟩ => ⟨S256x2048, .bf16⟩
  | .hbm, ⟨5, _⟩ => ⟨S1x256, .f32⟩
  | .hbm, ⟨6, _⟩ => ⟨S5120x2048, .bf16⟩
  | .hbm, ⟨7, _⟩ => ⟨S5120x2048, .f32⟩
  | .hbm, ⟨8, _⟩ => ⟨S2048x5120, .f32⟩
  | .hbm, ⟨9, _⟩ => ⟨S8192x5120, .f32⟩
  | .hbm, ⟨10, _⟩ => ⟨S8192x40x128, .f32⟩
  | .hbm, ⟨11, _⟩ => ⟨S40x8192x128, .f32⟩
  | .hbm, ⟨12, _⟩ => ⟨S40x8192x64, .f32⟩
  | .hbm, ⟨13, _⟩ => ⟨S40x8192x64, .f32⟩
  | .hbm, ⟨14, _⟩ => ⟨S8192x64, .f32⟩
  | .hbm, ⟨15, _⟩ => ⟨S1x8192x64, .f32⟩
  | .hbm, ⟨16, _⟩ => ⟨S40x8192x64, .f32⟩
  | .hbm, ⟨17, _⟩ => ⟨S40x8192x64, .f32⟩
  | .hbm, ⟨18, _⟩ => ⟨S8192x64, .f32⟩
  | .hbm, ⟨19, _⟩ => ⟨S1x8192x64, .f32⟩
  | .hbm, ⟨20, _⟩ => ⟨S40x8192x64, .f32⟩
  | .hbm, ⟨21, _⟩ => ⟨S40x8192x64, .f32⟩
  | .hbm, ⟨22, _⟩ => ⟨S40x8192x64, .f32⟩
  | .hbm, ⟨23, _⟩ => ⟨S8192x64, .f32⟩
  | .hbm, ⟨24, _⟩ => ⟨S1x8192x64, .f32⟩
  | .hbm, ⟨25, _⟩ => ⟨S40x8192x64, .f32⟩
  | .hbm, ⟨26, _⟩ => ⟨S40x8192x64, .f32⟩
  | .hbm, ⟨27, _⟩ => ⟨S8192x64, .f32⟩
  | .hbm, ⟨28, _⟩ => ⟨S1x8192x64, .f32⟩
  | .hbm, ⟨29, _⟩ => ⟨S40x8192x64, .f32⟩
  | .hbm, ⟨30, _⟩ => ⟨S40x8192x64, .f32⟩
  | .hbm, ⟨31, _⟩ => ⟨S40x8192x64, .f32⟩
  | .hbm, ⟨32, _⟩ => ⟨S40x8192x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S6x8192x128, .f32⟩
  | .hbm, ⟨39, _⟩ => ⟨S_, .f32⟩
  | .hbm, ⟨40, _⟩ => ⟨S6x8192x128, .f32⟩
  | .hbm, ⟨41, _⟩ => ⟨S6x8192x128, .f32⟩
  | .hbm, ⟨42, _⟩ => ⟨S6x8192x128, .f32⟩
  | .hbm, ⟨43, _⟩ => ⟨S6x8192x128, .f32⟩
  | .hbm, ⟨44, _⟩ => ⟨S10x8192x128, .f32⟩
  | .hbm, ⟨45, _⟩ => ⟨S_, .f32⟩
  | .hbm, ⟨46, _⟩ => ⟨S10x8192x128, .f32⟩
  | .hbm, ⟨47, _⟩ => ⟨S10x8192x128, .f32⟩
  | .hbm, ⟨48, _⟩ => ⟨S4x8192x128, .f32⟩
  | .hbm, ⟨49, _⟩ => ⟨S2x8192x128, .f32⟩
  | .hbm, ⟨50, _⟩ => ⟨S2x8192x128, .f32⟩
  | .hbm, ⟨51, _⟩ => ⟨S2x8192x128, .f32⟩
  | .hbm, ⟨52, _⟩ => ⟨S2x8192x128, .f32⟩
  | .hbm, ⟨53, _⟩ => ⟨S40x8192x128, .f32⟩
  | .hbm, ⟨54, _⟩ => ⟨S256x2048, .f32⟩
  | .hbm, ⟨55, _⟩ => ⟨S2048x256, .f32⟩
  | .hbm, ⟨56, _⟩ => ⟨S8192x256, .f32⟩
  | .hbm, ⟨57, _⟩ => ⟨S256, .f32⟩
  | .hbm, ⟨58, _⟩ => ⟨S1x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x256, .f32⟩
  | .hbm, ⟨63, _⟩ => ⟨S_, .f32⟩
  | .hbm, ⟨64, _⟩ => ⟨S8192x256, .f32⟩
  | .hbm, ⟨65, _⟩ => ⟨S8192x256, .f32⟩
  | .hbm, ⟨66, _⟩ => ⟨S_, .f32⟩
  | .hbm, ⟨67, _⟩ => ⟨S8192x256, .f32⟩
  | .hbm, ⟨68, _⟩ => ⟨S8192x256, .f32⟩
  | .hbm, ⟨69, _⟩ => ⟨S40x8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_1 : Ref sig .tc := ⟨.hbm, 63, rfl⟩
abbrev main_v55 : Ref sig .tc := ⟨.hbm, 64, rfl⟩
abbrev main_v56 : Ref sig .tc := ⟨.hbm, 65, rfl⟩
abbrev main_cst_2 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩

abbrev nD : Nat := 1
abbrev τ : Topo := Topo.v7x

variable {F : FTy → Type} [FloatOps F]
-- ==== OutProj.lean ====
abbrev S8192x768 : Shape := ⟨2, ![8192, 768]⟩
abbrev S8192x1280 : Shape := ⟨2, ![8192, 1280]⟩
abbrev S2048x2048 : Shape := ⟨2, ![2048, 2048]⟩
abbrev S8192x2048 : Shape := ⟨2, ![8192, 2048]⟩
abbrev S1x2048 : Shape := ⟨2, ![1, 2048]⟩
abbrev S512x768 : Shape := ⟨2, ![512, 768]⟩
abbrev S512x1280 : Shape := ⟨2, ![512, 1280]⟩
abbrev S512x2048 : Shape := ⟨2, ![512, 2048]⟩
abbrev S256x768 : Shape := ⟨2, ![256, 768]⟩
abbrev S768x2048 : Shape := ⟨2, ![768, 2048]⟩
abbrev S256x2048 : Shape := ⟨2, ![256, 2048]⟩
abbrev S256x1280 : Shape := ⟨2, ![256, 1280]⟩
abbrev S1280x2048 : Shape := ⟨2, ![1280, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x768, .bf16⟩
  | .hbm, ⟨1, _⟩ => ⟨S8192x1280, .bf16⟩
  | .hbm, ⟨2, _⟩ => ⟨S2048x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S512x768, .bf16⟩
  | .local _ .vmem, ⟨1, _⟩ => ⟨S512x768, .bf16⟩
  | .local _ .vmem, ⟨2, _⟩ => ⟨S512x1280, .bf16⟩
  | .local _ .vmem, ⟨3, _⟩ => ⟨S512x1280, .bf16⟩
  | .local _ .vmem, ⟨4, _⟩ => ⟨S2048x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S2048x2048, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefOutProjIdeal.lean ====
abbrev S8192x768 : Shape := ⟨2, ![8192, 768]⟩
abbrev S8192x1280 : Shape := ⟨2, ![8192, 1280]⟩
abbrev S2048x2048 : Shape := ⟨2, ![2048, 2048]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x1280, .bf16⟩
  | .hbm, ⟨2, _⟩ => ⟨S2048x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x768, .f32⟩
  | .hbm, ⟨7, _⟩ => ⟨S8192x1280, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.FfnMath.lean ====
module

public import Idealize.ShloMosaic.PureOps.Ideal
public import Idealize.ShloMosaic.Lib.IdealHost
public import Idealize.ShloMosaic.Lib.Pipeline.ValueKit

@[expose] public section

/-!
# The feed-forward layer as mathematics

The hidden activation of one row, the row's layer norm, and the two facts that relate the kernel's
arrangement to the plain one: a partial sum over hidden units grows tile by tile, and halving
`2α·h + Σ` is `α·h + Σ/2`.
-/

noncomputable section

namespace Ffn

open Idealize.ShloMosaic

/-- The row's projection on one hidden unit. -/
def proj (h : Fin 2048 → EReal) (w : Fin 2048 → Fin 5632 → EReal) (k : Fin 5632) : EReal :=
  ∑ x, h x * w x k

/-- The gated hidden activation `silu(h·w1) · (h·w3)` of a row at hidden unit `k`. -/
def hidden (h : Fin 2048 → EReal) (w1 w3 : Fin 2048 → Fin 5632 → EReal) (k : Fin 5632) : EReal :=
  proj h w1 k * Ideal.logistic (proj h w1 k) * proj h w3 k

/-- The contribution of hidden unit `k` to an output column, for every natural `k` (nothing past the last). -/
def contrib (h : Fin 2048 → EReal) (w1 w3 : Fin 2048 → Fin 5632 → EReal) (w2 : Fin 5632 → EReal) (k : ℕ) : EReal :=
  if hk : k < 5632 then hidden h w1 w3 ⟨k, hk⟩ * w2 ⟨k, hk⟩ else 0

/-- The contributions of the hidden units below `n`. -/
def prefixSum (h : Fin 2048 → EReal) (w1 w3 : Fin 2048 → Fin 5632 → EReal) (w2 : Fin 5632 → EReal) (n : ℕ) : EReal :=
  ∑ k ∈ Finset.range n, contrib h w1 w3 w2 k

/-- A tile of 256 hidden units extends the partial sum. -/
theorem prefixSum_tile (h : Fin 2048 → EReal) (w1 w3 : Fin 2048 → Fin 5632 → EReal) (w2 : Fin 5632 → EReal)
    (n : ℕ) (hn : n + 256 ≤ 5632) (term : Fin 256 → EReal)
    (e : ∀ x : Fin 256, term x = hidden h w1 w3 ⟨n + x.val, by omega⟩ * w2 ⟨n + x.val, by omega⟩) :
    prefixSum h w1 w3 w2 (n + 256) = prefixSum h w1 w3 w2 n + ∑ x, term x := by
  unfold prefixSum
  rw [Finset.sum_range_add (contrib h w1 w3 w2) n 256, Finset.sum_range (fun x => contrib h w1 w3 w2 (n + x))]
  refine congrArg _ (Finset.sum_congr rfl fun x _ => ?_)
  rw [e x, contrib, dif_pos (show n + x.val < 5632 by omega)]

/-- All hidden units: the whole contraction. -/
theorem prefixSum_all (h : Fin 2048 → EReal) (w1 w3 : Fin 2048 → Fin 5632 → EReal) (w2 : Fin 5632 → EReal) :
    prefixSum h w1 w3 w2 5632 = ∑ k, hidden h w1 w3 k * w2 k := by
  unfold prefixSum
  rw [Finset.sum_range]
  exact Finset.sum_congr rfl fun k _ => by rw [contrib, dif_pos k.isLt]

/-- The layer norm of a row at column `q`, with gain `g` and offset `b` there. -/
def norm (y : Fin 2048 → EReal) (g b : EReal) (q : Fin 2048) : EReal :=
  (y q - Ideal.div (∑ x, y x) (Ideal.ofBits .f32 0x45000000#32)) *
      Ideal.rsqrt (Ideal.div
        (∑ x, (y x - Ideal.div (∑ x, y x) (Ideal.ofBits .f32 0x45000000#32)) *
          (y x - Ideal.div (∑ x, y x) (Ideal.ofBits .f32 0x45000000#32)))
        (Ideal.ofBits .f32 0x45000000#32) + Ideal.ofBits .f32 0x3727C5AC#32) * g + b

/-- The literal `2α` is twice the literal `α`. -/
theorem half_two_alpha : ∃ a : ℝ, Ideal.ofBits .f32 0x3F9837F0#32 = (a : EReal) ∧
    Ideal.ofBits .f32 0x401837F0#32 = ((2 * a : ℝ) : EReal) ∧ Ideal.ofBits .f32 0x3F000000#32 = ((1 / 2 : ℝ) : EReal) := by
  refine ⟨9975792 / 8388608, ?_, ?_, ?_⟩ <;>
  · simp [Ideal.ofBits, Ideal.ieee, -EReal.coe_mul]
    norm_num

/-- Half of `2α·h + s` is `α·h + s/2`, for all extended reals. -/
theorem half_residual (h s : EReal) :
    Ideal.ofBits .f32 0x3F000000#32 * (Ideal.ofBits .f32 0x401837F0#32 * h + s) =
      Ideal.ofBits .f32 0x3F9837F0#32 * h + Ideal.ofBits .f32 0x3F000000#32 * s := by
  obtain ⟨a, h1, h2, h3⟩ := half_two_alpha
  rw [h1, h2, h3, EReal.left_distrib_of_nonneg_of_ne_top (by exact_mod_cast (by norm_num : (0 : ℝ) ≤ 1 / 2)) (EReal.coe_ne_top _),
    ← mul_assoc, ← EReal.coe_mul]
  congr 3
  ring

/-- The logistic function in the spelling `1 / (1 + exp (-x))`. -/
theorem logistic_eq (x : EReal) : Ideal.div 1 (1 + Ideal.exp (-x)) = Ideal.logistic x := rfl

end Ffn
-- ==== Proof.FfnPoint.lean ====
module

public import proofs.«01_k».proof.Proof.Gen.FfnIdeal.Value
public import Idealize.ShloMosaic.Lib.Pipeline.ValueKit
public import Idealize.ShloMosaic.Lib.Pointwise
public import Idealize.ShloMosaic.Lib.Pipeline.ReadBack
public import proofs.«01_k».proof.Proof.FfnMath

/-!
# The feed-forward kernel, one grid point at a time

The grid walks the 8 row blocks of 1024 rows and, inside a row block, the 22 tiles of 256 hidden
units.  The first tile of a row block keeps a copy of the block of activations and starts the output
block from the scaled residual; every tile adds its contribution; the last one applies the layer norm.
-/

@[expose] public section

set_option maxRecDepth 16384

noncomputable section

namespace Cert.FfnIdeal.Own

open Cert.FfnIdeal Cert.FfnIdeal.Gen Idealize.ShloMosaic Idealize.ShloMosaic.TcCoe Idealize.SL.Sem

variable (m : (ℓ : Loc nD τ sig) → Buf (Elt Ideal) ℓ)

/-- First tile of a row block: residual plus the first contribution, and the kept copy. -/
theorem first_tile (c : Dev nD) (t : Fin cfg0.N) (h0 : t.val % 22 = 0) (h1 : ¬t.val % 22 = 21) :
    outsAt0 m c t.val t.isLt =
      (k0_pay3 (k0_pay1 (iblk m c 0 t)) (iblk m c 1 t) (iblk m c 2 t) (k0_pay2 (iblk m c 0 t)) (iblk m c 3 t),
        k0_pay1 (iblk m c 0 t)) := by
  rw [outsAt0_A m c t h0 h1]
  frame_out

/-- A tile in the middle: one more contribution on top of what the point before left. -/
theorem middle_tile (c : Dev nD) (t : Fin cfg0.N) (h0 : ¬t.val % 22 = 0) (h1 : ¬t.val % 22 = 21)
    (acc : Vec Ideal S1024x2048 .f32) (hb : Vec Ideal S1024x2048 .bf16)
    (hprev : outsAt0 m c (t.val - 1) (Nat.lt_of_le_of_lt (Nat.sub_le _ _) t.isLt) = (acc, hb)) :
    outsAt0 m c t.val t.isLt = (k0_pay3 hb (iblk m c 1 t) (iblk m c 2 t) acc (iblk m c 3 t), hb) := by
  rw [outsAt0_B m c t h0 h1, hprev]
  frame_out
  rw [read_unread_whole]
  rfl

/-- The last tile: the last contribution, then the layer norm of half the total. -/
theorem last_tile (c : Dev nD) (t : Fin cfg0.N) (h0 : ¬t.val % 22 = 0) (h1 : t.val % 22 = 21)
    (acc : Vec Ideal S1024x2048 .f32) (hb : Vec Ideal S1024x2048 .bf16)
    (hprev : outsAt0 m c (t.val - 1) (Nat.lt_of_le_of_lt (Nat.sub_le _ _) t.isLt) = (acc, hb)) :
    (outsAt0 m c t.val t.isLt).1 =
      k0_pay4 (k0_pay3 hb (iblk m c 1 t) (iblk m c 2 t) acc (iblk m c 3 t)) (iblk m c 4 t) (iblk m c 5 t) := by
  rw [outsAt0_C m c t h0 h1, hprev]
  frame_out
  rw [read_unread_whole]

/-- One tile's contribution, entry by entry. -/
theorem pay3_at (hb : Vec Ideal S1024x2048 .bf16) (w1 w3 : Vec Ideal S2048x256 .f32)
    (acc : Vec Ideal S1024x2048 .f32) (w2 : Vec Ideal S256x2048 .f32) (r : Fin 1024) (q : Fin 2048) :
    k0_pay3 (F := Ideal) hb w1 w3 acc w2 (ix2 r q) = acc (ix2 r q) + ∑ x : Fin 256,
      ((∑ y : Fin 2048, hb (ix2 r y) * w1 (ix2 y x)) * Ideal.logistic (∑ y : Fin 2048, hb (ix2 r y) * w1 (ix2 y x)) *
        ∑ y : Fin 2048, hb (ix2 r y) * w3 (ix2 y x)) * w2 (ix2 x q) := by
  pointwise [k0_pay3]

/-- The last step: the layer norm of half the accumulated row. -/
theorem pay4_at (acc : Vec Ideal S1024x2048 .f32) (g b : Vec Ideal S1x2048 .f32) (r : Fin 1024) (q : Fin 2048) :
    k0_pay4 (F := Ideal) acc g b (ix2 r q) =
      Ffn.norm (fun x => Ideal.ofBits .f32 0x3F000000#32 * acc (ix2 r x)) (g (ix2 0 q)) (b (ix2 0 q)) q := by
  pointwise [k0_pay4]
  rfl

/-- The kept copy is the block itself, and the output block starts from the scaled residual. -/
theorem pay12_at (h : Vec Ideal S1024x2048 .f32) (r : Fin 1024) (q : Fin 2048) :
    k0_pay1 (F := Ideal) h (ix2 r q) = h (ix2 r q) ∧
      k0_pay2 (F := Ideal) h (ix2 r q) = Ideal.ofBits .f32 0x401837F0#32 * h (ix2 r q) := by
  pointwise [k0_pay1, k0_pay2]

/-- The windows' block indices at a point, all points at once. -/
theorem idx : ∀ t : Fin cfg0.N, win0_0.index t = ![t.val / 22, 0] ∧ win0_1.index t = ![0, t.val % 22] ∧
    win0_2.index t = ![0, t.val % 22] ∧ win0_3.index t = ![t.val % 22, 0] ∧ win0_4.index t = ![0, 0] ∧
    win0_5.index t = ![0, 0] ∧ win0_6.index t = ![t.val / 22, 0] ∧ t.val / 22 < 8 :=
  (by decide +kernel : ∀ t : Fin grid0.N, _)

section Blocks

variable (c : Dev nD) (t : Fin cfg0.N)

/-- The activations, the weights and the affine rows as two-index functions. -/
abbrev H (r : Fin 8192) (q : Fin 2048) : EReal := (m ((c : Thread nD τ).loc main_arg0) : FVec Ideal S8192x2048 .f32) (ix2 r q)
/-- The first weights. -/
abbrev W1 (x : Fin 2048) (k : Fin 5632) : EReal := (m ((c : Thread nD τ).loc main_arg1) : FVec Ideal S2048x5632 .f32) (ix2 x k)
/-- The weights of the gate's partner. -/
abbrev W3 (x : Fin 2048) (k : Fin 5632) : EReal := (m ((c : Thread nD τ).loc main_arg2) : FVec Ideal S2048x5632 .f32) (ix2 x k)
/-- The weights back. -/
abbrev W2 (k : Fin 5632) (q : Fin 2048) : EReal := (m ((c : Thread nD τ).loc main_arg3) : FVec Ideal S5632x2048 .f32) (ix2 k q)
/-- The norm's gains. -/
abbrev Gn (q : Fin 2048) : EReal := (m ((c : Thread nD τ).loc main_arg4) : FVec Ideal S1x2048 .f32) (ix2 0 q)
/-- The norm's biases. -/
abbrev Bs (q : Fin 2048) : EReal := (m ((c : Thread nD τ).loc main_arg5) : FVec Ideal S1x2048 .f32) (ix2 0 q)

/-- A block's rows are rows of the array. -/
theorem row_lt (r : Fin 1024) : 1024 * (t.val / 22) + r.val < 8192 := by
  have := (idx t).2.2.2.2.2.2.2
  omega

/-- A tile's hidden channels are hidden channels of the layer. -/
theorem hid_lt (k : Fin 256) : 256 * (t.val % 22) + k.val < 5632 := by omega

/-- The rows that a point reads. -/
theorem blk_h (r : Fin 1024) (q : Fin 2048) :
    (iblk m c 0 t : Vec Ideal S1024x2048 .f32) (ix2 r q) = H m c ⟨1024 * (t.val / 22) + r.val, row_lt t r⟩ q := by
  blk_ext [iblk, V, idx t]

/-- The first weights that a point reads. -/
theorem blk_w1 (x : Fin 2048) (k : Fin 256) :
    (iblk m c 1 t : Vec Ideal S2048x256 .f32) (ix2 x k) = W1 m c x ⟨256 * (t.val % 22) + k.val, hid_lt t k⟩ := by
  blk_ext [iblk, V, idx t]

/-- The partner's weights that a point reads. -/
theorem blk_w3 (x : Fin 2048) (k : Fin 256) :
    (iblk m c 2 t : Vec Ideal S2048x256 .f32) (ix2 x k) = W3 m c x ⟨256 * (t.val % 22) + k.val, hid_lt t k⟩ := by
  blk_ext [iblk, V, idx t]

/-- The weights back that a point reads. -/
theorem blk_w2 (k : Fin 256) (q : Fin 2048) :
    (iblk m c 3 t : Vec Ideal S256x2048 .f32) (ix2 k q) = W2 m c ⟨256 * (t.val % 22) + k.val, hid_lt t k⟩ q := by
  blk_ext [iblk, V, idx t]

/-- The gains that a point reads. -/
theorem blk_g (q : Fin 2048) : (iblk m c 4 t : Vec Ideal S1x2048 .f32) (ix2 0 q) = Gn m c q := by
  blk_ext [iblk, V, idx t]

/-- The biases that a point reads. -/
theorem blk_b (q : Fin 2048) : (iblk m c 5 t : Vec Ideal S1x2048 .f32) (ix2 0 q) = Bs m c q := by
  blk_ext [iblk, V, idx t]

end Blocks

end Cert.FfnIdeal.Own
-- ==== Proof.FfnValue.lean ====
module

public import proofs.«01_k».proof.Proof.FfnPoint

@[expose] public section

/-!
# What the feed-forward kernel's result array holds

By induction over the grid points, the output block after a point is the scaled residual plus the
contributions of the hidden units seen so far; the last tile of a row block applies the layer norm,
and that is what is written back.
-/

set_option maxRecDepth 16384

noncomputable section

namespace Cert.FfnIdeal.Own

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Residual plus the contributions of the hidden units below `n`, at row `r`, column `q`. -/
def upTo (r : Fin 8192) (q : Fin 2048) (n : ℕ) : EReal :=
  Ideal.ofBits .f32 0x401837F0#32 * H m c r q + Ffn.prefixSum (H m c r) (W1 m c) (W3 m c) (fun k => W2 m c k q) n

/-- One more tile, on a kept copy `hb` of the row block and an accumulator that has seen the tiles before. -/
theorem tile_upTo (t : Fin cfg0.N) (hb : Vec Ideal S1024x2048 .bf16) (acc : Vec Ideal S1024x2048 .f32)
    (ehb : ∀ (r : Fin 1024) (q : Fin 2048), hb (ix2 r q) = H m c ⟨1024 * (t.val / 22) + r.val, row_lt t r⟩ q)
    (r : Fin 1024) (q : Fin 2048)
    (eacc : acc (ix2 r q) = upTo m c ⟨1024 * (t.val / 22) + r.val, row_lt t r⟩ q (256 * (t.val % 22))) :
    k0_pay3 hb (iblk m c 1 t) (iblk m c 2 t) acc (iblk m c 3 t) (ix2 r q) =
      upTo m c ⟨1024 * (t.val / 22) + r.val, row_lt t r⟩ q (256 * (t.val % 22) + 256) := by
  rw [pay3_at, eacc, upTo, upTo, add_assoc]
  refine congrArg _ (Ffn.prefixSum_tile _ _ _ _ _ (by omega) _ fun x => ?_).symm
  simp only [ehb, blk_w1, blk_w3, blk_w2]
  rfl

/-- After every point but a row block's last: the kept copy and the accumulator. -/
theorem state (n : ℕ) : ∀ (hn : n < cfg0.N) (hl : ¬n % 22 = 21) (r : Fin 1024) (q : Fin 2048),
    (outsAt0 m c n hn).2 (ix2 r q) = H m c ⟨1024 * (n / 22) + r.val, row_lt ⟨n, hn⟩ r⟩ q ∧
      (outsAt0 m c n hn).1 (ix2 r q) = upTo m c ⟨1024 * (n / 22) + r.val, row_lt ⟨n, hn⟩ r⟩ q (256 * (n % 22) + 256) := by
  induction n with
  | zero =>
    intro hn hl r q
    rw [first_tile m c ⟨0, hn⟩ (Nat.zero_mod 22) (by show ¬0 % 22 = 21; decide)]
    refine ⟨(pay12_at _ r q).1.trans (blk_h m c ⟨0, hn⟩ r q), ?_⟩
    refine tile_upTo m c ⟨0, hn⟩ _ _ (fun r q => (pay12_at _ r q).1.trans (blk_h m c _ r q)) r q ?_
    rw [(pay12_at _ r q).2, blk_h, upTo, Ffn.prefixSum]
    simp
  | succ n ih =>
    intro hn hl r q
    by_cases h0 : (n + 1) % 22 = 0
    · rw [first_tile m c ⟨n + 1, hn⟩ h0 hl]
      refine ⟨(pay12_at _ r q).1.trans (blk_h m c ⟨n + 1, hn⟩ r q), ?_⟩
      refine tile_upTo m c ⟨n + 1, hn⟩ _ _ (fun r q => (pay12_at _ r q).1.trans (blk_h m c _ r q)) r q ?_
      rw [(pay12_at _ r q).2, blk_h, upTo, Ffn.prefixSum]
      simp [h0]
    · have hd : n / 22 = (n + 1) / 22 := by omega
      have hm : 256 * (n % 22) + 256 = 256 * ((n + 1) % 22) := by omega
      have ihn := ih (Nat.lt_of_succ_lt hn) (by omega)
      simp only [hd, hm] at ihn
      rw [middle_tile m c ⟨n + 1, hn⟩ h0 hl _ _ rfl]
      refine ⟨(ihn r q).1, ?_⟩
      exact tile_upTo m c ⟨n + 1, hn⟩ _ _ (fun r q => (ihn r q).1) r q (ihn r q).2

/-- The finished row: residual plus half the feed-forward output, in the kernel's arrangement. -/
def finished (r : Fin 8192) (x : Fin 2048) : EReal :=
  Ideal.ofBits .f32 0x3F000000#32 * upTo m c r x 5632

/-- What a row block's last point writes back. -/
theorem last_at (t : Fin cfg0.N) (hl : t.val % 22 = 21) (r : Fin 1024) (q : Fin 2048) :
    (outsAt0 m c t.val t.isLt).1 (ix2 r q) =
      Ffn.norm (finished m c ⟨1024 * (t.val / 22) + r.val, row_lt t r⟩) (Gn m c q) (Bs m c q) q := by
  have hd : (t.val - 1) / 22 = t.val / 22 := by omega
  have hm : 256 * ((t.val - 1) % 22) + 256 = 256 * (t.val % 22) := by omega
  have ih := state m c (t.val - 1) (Nat.lt_of_le_of_lt (Nat.sub_le _ _) t.isLt) (by omega)
  simp only [hd, hm] at ih
  rw [last_tile m c t (by omega) hl _ _ rfl, pay4_at, blk_g, blk_b]
  congr 1
  funext x
  rw [tile_upTo m c t _ _ (fun r q => (ih r q).1) r x (ih r x).2, finished]
  congr 2
  omega

/-- The result array: the layer norm of the finished rows. -/
def result : FVec Ideal S8192x2048 .f32 := fun j => Ffn.norm (finished m c (j 0)) (Gn m c (j 1)) (Bs m c (j 1)) (j 1)

/-- The result array after the last point. -/
theorem final : (dats m 0 c).arrAt 6 (cfgs 0).N = result m c := by
  refine (dats m 0 c).arrAt_eq_of_covers 6 _ (by decide +kernel) fun t hf y => ?_
  blk_simp
  rw [after0_6]
  have hl : t.val % 22 = 21 := (flush0_6 t).mp hf
  obtain ⟨r, q, rfl⟩ : ∃ (r : Fin 1024) (q : Fin 2048), y = ix2 r q := ⟨y 0, y 1, eq_ix2 y⟩
  have hi : ((cfg0.win 6).blk t).view.emb (ix2 r q) = (ix2 ⟨1024 * (t.val / 22) + r.val, row_lt t r⟩ q : S8192x2048.Idx) := by
    blk_ext [idx t]
  rw [hi]
  exact last_at m c t hl r q

end Cert.FfnIdeal.Own
-- ==== Proof.FfnRef.lean ====
module

public import proofs.«01_k».proof.Proof.Gen.RefFfnIdeal.Run
public import Idealize.ShloMosaic.Lib.Pointwise
public import proofs.«01_k».proof.Proof.FfnMath

@[expose] public section

/-!
# What the plain feed-forward reference computes

The reference's result, cut into the residual plus half the feed-forward output, and the layer norm
of that; each read at an entry.
-/

set_option maxRecDepth 16384

noncomputable section

namespace Cert.RefFfnIdeal.Own

open Cert.RefFfnIdeal Cert.RefFfnIdeal.Gen Cert.RefFfnIdeal.Value
open Idealize.ShloMosaic Idealize.ShloMosaic.TcCoe Idealize.SL.Sem

variable (m : (ℓ : Loc nD τ sig) → Buf (Elt Ideal) ℓ)

/-- A projection of the activations on all hidden units. -/
def projs (h : FVec Ideal S8192x2048 .f32) (w : FVec Ideal S2048x5632 .f32) : FVec Ideal S8192x5632 .f32 :=
  Host.dotGeneral dot_S8192x2048_S2048x5632_S8192x5632_1_0_0_1_n_n none h w

/-- The gated hidden activations of all rows. -/
def gated (a b : FVec Ideal S8192x5632 .f32) : FVec Ideal S8192x5632 .f32 :=
  mulf (mulf a (Host.divf (broadcastInDim S8192x5632 ![] bcast_S_S8192x5632 (constant S_ .f32 0x3F800000#32))
    (addf (broadcastInDim S8192x5632 ![] bcast_S_S8192x5632 (constant S_ .f32 0x3F800000#32)) (Host.exp (Host.negf a))))) b

/-- The residual plus half the feed-forward output. -/
def summed (h : FVec Ideal S8192x2048 .f32) (z : FVec Ideal S8192x5632 .f32) (w2 : FVec Ideal S5632x2048 .f32) :
    FVec Ideal S8192x2048 .f32 :=
  addf (mulf (broadcastInDim S8192x2048 ![] bcast_S_S8192x2048 (constant S_ .f32 0x3F9837F0#32)) h)
    (mulf (broadcastInDim S8192x2048 ![] bcast_S_S8192x2048 (constant S_ .f32 0x3F000000#32))
      (Host.dotGeneral dot_S8192x5632_S5632x2048_S8192x2048_1_0_0_1_n_n none z w2))

/-- The mean of every row. -/
def rowMean (y : FVec Ideal S8192x2048 .f32) : FVec Ideal S8192x1 .f32 :=
  Host.divf (broadcastInDim S8192x1 ![0] bcast_S8192_S8192x1_0
      (Host.reduceAdd y (constant S_ .f32 0x00000000#32) reducesTo_S8192x2048_S8192_d1 h_S_))
    (broadcastInDim S8192x1 ![] bcast_S_S8192x1 (constant S_ .f32 0x45000000#32))

/-- Every row minus its mean. -/
def centred (y : FVec Ideal S8192x2048 .f32) : FVec Ideal S8192x2048 .f32 :=
  subf y (broadcastInDim S8192x2048 ![0, 1] bcast_S8192x1_S8192x2048_0_1 (rowMean y))

/-- The layer norm of every row. -/
def normed (y : FVec Ideal S8192x2048 .f32) (g b : FVec Ideal S1x2048 .f32) : FVec Ideal S8192x2048 .f32 :=
  addf (mulf (mulf (centred y) (broadcastInDim S8192x2048 ![0, 1] bcast_S8192x1_S8192x2048_0_1
      (Host.rsqrt (addf (rowMean (mulf (centred y) (centred y)))
        (broadcastInDim S8192x1 ![] bcast_S_S8192x1 (constant S_ .f32 0x3727C5AC#32))))))
    (broadcastInDim S8192x2048 ![0, 1] bcast_S1x2048_S8192x2048_0_1
      (broadcastInDim S1x2048 ![1] bcast_S2048_S1x2048_1 (shapeCast _ g shapeCasts_S1x2048_S2048))))
    (broadcastInDim S8192x2048 ![0, 1] bcast_S1x2048_S8192x2048_0_1
      (broadcastInDim S1x2048 ![1] bcast_S2048_S1x2048_1 (shapeCast _ b shapeCasts_S1x2048_S2048)))

/-- The reference's result is the composition of these stages. -/
theorem out_eq (c : Dev nD) :
    res_out0 (F := Ideal) m c =
      normed (summed (m ((c.tc : Thread nD τ).loc main_arg0))
          (gated (projs (m ((c.tc : Thread nD τ).loc main_arg0)) (m ((c.tc : Thread nD τ).loc main_arg1)))
            (projs (m ((c.tc : Thread nD τ).loc main_arg0)) (m ((c.tc : Thread nD τ).loc main_arg2))))
          (m ((c.tc : Thread nD τ).loc main_arg3)))
        (m ((c.tc : Thread nD τ).loc main_arg4)) (m ((c.tc : Thread nD τ).loc main_arg5)) := rfl

/-- An entry of a product with the weights. -/
theorem projs_at (h : FVec Ideal S8192x2048 .f32) (w : FVec Ideal S2048x5632 .f32) (r : Fin 8192) (k : Fin 5632) :
    projs h w (ix2 r k) = Ffn.proj (fun x => h (ix2 r x)) (fun x k => w (ix2 x k)) k := by
  pointwise [projs]
  rfl

/-- A gated entry. -/
theorem gated_at (a b : FVec Ideal S8192x5632 .f32) (r : Fin 8192) (k : Fin 5632) :
    gated a b (ix2 r k) = a (ix2 r k) * Ideal.logistic (a (ix2 r k)) * b (ix2 r k) := by
  pointwise [gated]
  rfl

/-- An entry before the norm. -/
theorem summed_at (h : FVec Ideal S8192x2048 .f32) (z : FVec Ideal S8192x5632 .f32) (w2 : FVec Ideal S5632x2048 .f32)
    (r : Fin 8192) (q : Fin 2048) :
    summed h z w2 (ix2 r q) = Ideal.ofBits .f32 0x3F9837F0#32 * h (ix2 r q) +
      Ideal.ofBits .f32 0x3F000000#32 * ∑ k : Fin 5632, z (ix2 r k) * w2 (ix2 k q) := by
  pointwise [summed]

/-- The mean of a row. -/
theorem rowMean_at (y : FVec Ideal S8192x2048 .f32) (r : Fin 8192) :
    rowMean y (ix2 r 0) = Ideal.div (∑ x : Fin 2048, y (ix2 r x)) (Ideal.ofBits .f32 0x45000000#32) := by
  pointwise [rowMean]

/-- An entry less the mean of its row. -/
theorem centred_at (y : FVec Ideal S8192x2048 .f32) (r : Fin 8192) (q : Fin 2048) :
    centred y (ix2 r q) = y (ix2 r q) - rowMean y (ix2 r 0) := by
  pointwise [centred]

/-- A normed entry. -/
theorem normed_at (y : FVec Ideal S8192x2048 .f32) (g b : FVec Ideal S1x2048 .f32) (r : Fin 8192) (q : Fin 2048) :
    normed y g b (ix2 r q) = Ffn.norm (fun x => y (ix2 r x)) (g (ix2 0 q)) (b (ix2 0 q)) q := by
  have e : normed y g b (ix2 r q) = centred y (ix2 r q) * Ideal.rsqrt (rowMean (mulf (centred y) (centred y)) (ix2 r 0) +
      Ideal.ofBits .f32 0x3727C5AC#32) * g (ix2 0 q) + b (ix2 0 q) := by
    pointwise [normed]
  have s : ∀ x : Fin 2048, (mulf (centred y) (centred y) : FVec Ideal S8192x2048 .f32) (ix2 r x) =
      centred y (ix2 r x) * centred y (ix2 r x) := fun _ => rfl
  rw [e, rowMean_at]
  simp only [s, centred_at, rowMean_at]
  rfl

/-- The reference's result at row `r`, column `q`. -/
theorem out_at (c : Dev nD) (h : FVec Ideal S8192x2048 .f32) (w1 w3 : FVec Ideal S2048x5632 .f32)
    (w2 : FVec Ideal S5632x2048 .f32) (g b : FVec Ideal S1x2048 .f32) (r : Fin 8192) (q : Fin 2048) :
    normed (summed h (gated (projs h w1) (projs h w3)) w2) g b (ix2 r q) =
      Ffn.norm (fun x => Ideal.ofBits .f32 0x3F9837F0#32 * h (ix2 r x) +
        Ideal.ofBits .f32 0x3F000000#32 * ∑ k, Ffn.hidden (fun y => h (ix2 r y)) (fun y k => w1 (ix2 y k))
          (fun y k => w3 (ix2 y k)) k * w2 (ix2 k x)) (g (ix2 0 q)) (b (ix2 0 q)) q := by
  rw [normed_at]
  simp only [summed_at, gated_at, projs_at]
  rfl

end Cert.RefFfnIdeal.Own
-- ==== Proof.FfnClaim.lean ====
module

public import proofs.«01_k».proof.Defs
public import proofs.«01_k».proof.Proof.Gen.Ffn.Frame
public import proofs.«01_k».proof.Proof.FfnValue
public import proofs.«01_k».proof.Proof.FfnRef
public import Idealize.ShloMosaic.Adequacy
public import Idealize.ShloMosaic.Init
public import Idealize.ShloMosaic.Lib.Claim

@[expose] public section

/-!
# The claims about the feed-forward call

The kernel's result array and the plain reference's agree entry by entry: the layer norm is the same
function of a row, and the two rows agree because half of `2α·h + Σ` is `α·h + Σ/2`.
-/

set_option maxRecDepth 16384

noncomputable section

namespace Cert.Proof.Ffn

open Idealize.ShloMosaic Idealize.SL.Sem

/-- The kernel's finished row is the reference's row before the layer norm. -/
theorem row_eq (m : (ℓ : Loc Cert.FfnIdeal.nD Cert.FfnIdeal.τ Cert.FfnIdeal.sig) → Buf (Elt Ideal) ℓ)
    (c : Dev Cert.FfnIdeal.nD) (r : Fin 8192) (x : Fin 2048) :
    Cert.FfnIdeal.Own.finished m c r x = Ideal.ofBits .f32 0x3F9837F0#32 * Cert.FfnIdeal.Own.H m c r x +
      Ideal.ofBits .f32 0x3F000000#32 * ∑ k, Ffn.hidden (Cert.FfnIdeal.Own.H m c r) (Cert.FfnIdeal.Own.W1 m c)
        (Cert.FfnIdeal.Own.W3 m c) k * Cert.FfnIdeal.Own.W2 m c k x := by
  rw [Cert.FfnIdeal.Own.finished, Cert.FfnIdeal.Own.upTo, Ffn.half_residual, Ffn.prefixSum_all]

/-- The kernel on compiled floats ends, its arguments unchanged. -/
theorem frame : Cert.quiescent_Ffn := fun m ρ _ => Cert.Ffn.Gen.frame m ρ

/-- So does the kernel on ideal floats, -/
theorem frame_ideal : Cert.quiescent_FfnIdeal := fun m ρ _ => Cert.FfnIdeal.Gen.frame m ρ

/-- and the reference. -/
theorem frame_ref : Cert.quiescent_RefFfnIdeal := fun m ρ _ =>
  (θ_run Cert.RefFfnIdeal.defs _ _).mono
    (fun r h => ⟨fun c => (h c).2, Idealize.ShloMosaic.sem_eq_zero_of_no_sems (by decide) r.2⟩)
    (Cert.RefFfnIdeal.Value.run (F := Ideal) m ρ)

/-- The idealized kernel is the kernel read over ideal floats: no constant is named. -/
theorem preserves : Cert.preserves_Ffn_FfnIdeal := trivial

/-- On the same arguments the kernel and the reference end with the same result. -/
theorem algebraic : Cert.algebraic_FfnIdeal_RefFfnIdeal := by
  pair_intro
  · run_from Cert.FfnIdeal.Value.run_blocks m g
  · run_from Cert.RefFfnIdeal.Value.run m' g'
    rw [Cert.FfnIdeal.Own.final m c]
    refine (Cert.RefFfnIdeal.Own.out_eq m' c).trans ?_
    obtain ⟨e0, e1, e2, e3, e4, e5⟩ := hagree c
    rw [e0, e1, e2, e3, e4, e5]
    funext j
    obtain ⟨r, q, rfl⟩ : ∃ (r : Fin 8192) (q : Fin 2048), j = ix2 r q := ⟨j 0, j 1, eq_ix2 j⟩
    refine (Cert.RefFfnIdeal.Own.out_at c _ _ _ _ _ _ r q).trans ?_
    refine Eq.trans ?_ (show Ffn.norm (Cert.FfnIdeal.Own.finished m c r) (Cert.FfnIdeal.Own.Gn m c q)
      (Cert.FfnIdeal.Own.Bs m c q) q = Cert.FfnIdeal.Own.result m c (ix2 r q) from rfl)
    rw [show Cert.FfnIdeal.Own.finished m c r = _ from funext (row_eq m c r)]

end Cert.Proof.Ffn

end
-- ==== Proof.DilBits.lean ====
module

public import proofs.«01_k».proof.Proof.Gen.Kernel.Frame.Runs
public import proofs.«01_k».proof.Defs
public import Idealize.ShloMosaic.Lib.Claim

@[expose] public section

/-!
# The dilated attention as compiled: its frame

The body is run at the compiled floats.  Nothing is said of what it leaves in the output and in the
scratch memory; the heads it reads stay as they were.
-/

set_option maxRecDepth 16384

noncomputable section

namespace DilBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

set_option maxHeartbeats 2000000 in
/-- The body at any grid point, on any contents. -/
theorem run_body (c : Dev nD) (i : grid0.Coords) (arg1 : Memref sig .tc .vmem S1x8192x128 .bf16) (harg1 : arg1.IsWhole) (arg2 : Memref sig .tc .vmem S1x8192x128 .bf16) (harg2 : arg2.IsWhole) (arg3 : Memref sig .tc .vmem S1x8192x128 .bf16) (harg3 : arg3.IsWhole) (arg4 : Memref sig .tc .vmem S8192x128 .bf16) (harg4 : arg4.IsWhole) (arg5 : Memref sig .tc .vmem S256x2304 .f32) (harg5 : arg5.IsWhole) (arg6 : Memref sig .tc .vmem S256x2304 .f32) (harg6 : arg6.IsWhole) (arg7 : Memref sig .tc .vmem S256x2304 .f32) (harg7 : arg7.IsWhole)
    (x0 : Vec Bits S1x8192x128 .bf16) (x1 : Vec Bits S1x8192x128 .bf16) (x2 : Vec Bits S1x8192x128 .bf16) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := Bits)) Variants.none c none) E (cc0_dilated_attn i arg1 harg1 arg2 harg2 arg3 harg3 arg4 harg4 arg5 harg5 arg6 harg6 arg7 harg7) K := by
  intro E K
  by_cases hc0 : cond0_0 i
  all_goals
    simp only [cc0_dilated_attn_eq_skeleton]; unfold cc0_dilated_attn_skel
    simp only [k0_part4_eq_skeleton, k0_part1_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- After the body at `t` the inputs are at their blocks; of the output nothing is said (`forgotten`). -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => (0#16 : BitVec 16)
  Φ _ := Pipeline.ΦA spec0 c
  q w := Pipeline.shareOf spec0 w
  owed _ := 0

/-- The arrays the windows read and write are the launched ones. -/
theorem A_eq (c : Dev nD) (w : Fin cfg0.W) : (dats m 0 c).A w = V m c (Pipeline.arrRef spec0 w) := by
  dsimp only [dats]

/-- What the first window holds after a point. -/
theorem after0_0 (c : Dev nD) (t : Fin cfg0.N) : (dats m 0 c).after 0 t = iblk m c 0 t := by dsimp only [dats]
/-- What the second window holds after a point. -/
theorem after0_1 (c : Dev nD) (t : Fin cfg0.N) : (dats m 0 c).after 1 t = iblk m c 1 t := by dsimp only [dats]
/-- What the third window holds after a point. -/
theorem after0_2 (c : Dev nD) (t : Fin cfg0.N) : (dats m 0 c).after 2 t = iblk m c 2 t := by dsimp only [dats]
/-- What the first window holds before a point. -/
theorem before0_0 (c : Dev nD) (t : Fin cfg0.N) (d) : (dats m 0 c).before 0 t d = iblk m c 0 t :=
  before0_0_of m (dats m 0 c) (A_eq m c 0) (after0_0 m c) t d
/-- What the second window holds before a point. -/
theorem before0_1 (c : Dev nD) (t : Fin cfg0.N) (d) : (dats m 0 c).before 1 t d = iblk m c 1 t :=
  before0_1_of m (dats m 0 c) (A_eq m c 1) (after0_1 m c) t d
/-- What the third window holds before a point. -/
theorem before0_2 (c : Dev nD) (t : Fin cfg0.N) (d) : (dats m 0 c).before 2 t d = iblk m c 2 t :=
  before0_2_of m (dats m 0 c) (A_eq m c 2) (after0_2 m c) t d

/-- What the body at point `t` is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

/-- The window of the output is the one nothing is said of. -/
abbrev forgotten : Fin cfg0.W → Bool := fun w => match w with
  | ⟨0, _⟩ => false
  | ⟨1, _⟩ => false
  | ⟨2, _⟩ => false
  | ⟨3, _⟩ => true

set_option maxHeartbeats 2000000 in
/-- The body at any point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2]
  rw [show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, H3⟩
  iapply (run_body c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- The body that is run at a point. -/
theorem defs₀_row (t : Fin cfg0.N) :
    defs₀ (F := Bits) .tc cfg0.body (cfg0.bodyArgs t (cfg0.slots t)) = bodyAt0 t := by
  unfold defs₀; rw [Defs.onTc_tc]

/-- The body keeps its contract at every point. -/
theorem body_obligation (c : Dev nD) : BodyObligationLoose (dats m 0 c) (defs₀ (F := Bits)) Variants.none () Set.univ forgotten := fun t => by
  rw [bigSep_W0, bigSep_W0, defs₀_row]
  exact triple_restated (sound_body m c t) rfl .rfl fun _ => .rfl

set_option backward.isDefEq.respectTransparency.types false in
/-- The launch, with every semaphore counter at zero at the end. -/
theorem run_main : θ_run defs (onTc (τ := τ) (main (F := Bits))) (s₀ m ρ) (fun r => (RDat.FramePost cfg0 (fun c => (dats m 0 c).toRForget forgotten) (V m)) r ∧ r.2.sem = fun _ => 0) :=
  Pipeline.θ_run_frame_track_forget_shared (Q' := _) cfgs (dats m) (0 : Fin 1) launch₀0 defs₀ Variants.none forgotten m ρ main
    (hbody := body_obligation m) (hq := fun _ _ _ => rfl)
    (howed := fun _ _ => rfl) (V := V m) (hmain := hmain m Variants.none) (hA := A_eq m) (hin := fun _ => .rfl) (hout := fun _ => .rfl)

/-- The frame: every run ends, the argument as launched. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (Eq.mp (congrFun (((dats m 0 c).toRForget forgotten).ArrAt_in 2 rfl _) _) ((h.1 c).1 2) : _ = _).trans
    ((A_eq m c 2).trans (V_main_arg0 m c)), h.2⟩) (run_main m ρ)

end DilBits

end
-- ==== Proof.DilMath.lean ====
module

public import Idealize.ShloMosaic.PureOps.Ideal
public import Idealize.ShloMosaic.Lib.IdealHost
public import Idealize.ShloMosaic.Lib.Pipeline.ValueKit

@[expose] public section

/-!
# Softmax averages over extended reals

The weights of an attention row are real numbers, nonnegative and not all zero; the values averaged are
arbitrary extended reals.  A softmax average does not depend on the maximum that is subtracted, and
averages of several windows merged by their log-sum-exps are one average with the summed weights.
-/

noncomputable section

namespace Dil

open Idealize.ShloMosaic

variable {ι : Type}

/-- Multiplying by a nonnegative real distributes over a finite sum of extended reals. -/
theorem real_mul_sum (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

/-- A sum of nonnegative reals times one extended real is the sum of the products. -/
theorem sum_real_mul (s : Finset ι) (a : ι → ℝ) (ha : ∀ i, 0 ≤ a i) (v : EReal) :
    ∑ i ∈ s, (a i : EReal) * v = ((∑ i ∈ s, a i : ℝ) : EReal) * v := by
  classical
  induction s using Finset.induction_on with
  | empty => simp
  | insert b s hb ih =>
    rw [Finset.sum_insert hb, Finset.sum_insert hb, ih, EReal.coe_add,
      EReal.right_distrib_of_nonneg (EReal.coe_nonneg.mpr (ha b))
        (EReal.coe_nonneg.mpr (Finset.sum_nonneg fun i _ => ha i))]

/-- A finite sum of reals, read as an extended real. -/
theorem coe_sum (s : Finset ι) (a : ι → ℝ) : ∑ i ∈ s, (a i : EReal) = ((∑ i ∈ s, a i : ℝ) : EReal) := by
  classical
  induction s using Finset.induction_on with
  | empty => simp
  | insert b s hb ih => rw [Finset.sum_insert hb, Finset.sum_insert hb, ih, EReal.coe_add]

/-- An average whose weights carry a common positive factor: the factor cancels. -/
theorem weighted (s : Finset ι) (c : ℝ) (hc : 0 < c) (e : ι → ℝ) (hs : 0 < ∑ i ∈ s, e i) (v : ι → EReal) :
    Ideal.div (∑ i ∈ s, ((c * e i : ℝ) : EReal) * v i) (∑ i ∈ s, ((c * e i : ℝ) : EReal))
      = ∑ i ∈ s, ((e i / ∑ j ∈ s, e j : ℝ) : EReal) * v i := by
  have hS : (∑ i ∈ s, c * e i) = c * ∑ i ∈ s, e i := (Finset.mul_sum s e c).symm
  have hpos : 0 < c * ∑ i ∈ s, e i := mul_pos hc hs
  rw [coe_sum, hS, Ideal.div_coe hpos.ne', mul_comm, real_mul_sum _ _ (one_div_nonneg.mpr hpos.le)]
  refine Finset.sum_congr rfl fun i _ => ?_
  rw [← mul_assoc, ← EReal.coe_mul]
  congr 2
  have h1 := hc.ne'
  have h2 := hs.ne'
  field_simp

/-- What is asked of an exponential: zero at `⊥`, positive on the reals, differences to quotients. -/
structure IsExp (φ : EReal → EReal) (ψ : ℝ → ℝ) : Prop where
  bot : φ ⊥ = 0
  coe : ∀ x : ℝ, φ x = (ψ x : EReal)
  sub : ∀ x y : ℝ, ψ (x - y) = ψ (-y) * ψ x
  pos : ∀ x : ℝ, 0 < ψ x

/-- The natural exponential. -/
theorem isExp_exp : IsExp Ideal.exp Real.exp where
  bot := rfl
  coe _ := rfl
  sub x y := by rw [← Real.exp_add]; congr 1; ring
  pos := Real.exp_pos

/-- The power of two. -/
theorem isExp_exp2 : IsExp Ideal.exp2 (fun x => Real.rpow 2 x) where
  bot := rfl
  coe _ := rfl
  sub x y := by
    show (2 : ℝ) ^ (x - y) = 2 ^ (-y) * 2 ^ x
    rw [← Real.rpow_add two_pos]; congr 1; ring
  pos x := Real.rpow_pos_of_pos two_pos x

/-- A score `g` and the weight `e` it stands for: masked (`⊥`, weight zero), or a real and its exponential. -/
def Scored (ψ : ℝ → ℝ) (g : EReal) (e : ℝ) : Prop := (g = ⊥ ∧ e = 0) ∨ ∃ x : ℝ, g = x ∧ e = ψ x

/-- A weight is not negative. -/
theorem Scored.nonneg {φ : EReal → EReal} {ψ : ℝ → ℝ} (h : IsExp φ ψ) {g : EReal} {e : ℝ} (hg : Scored ψ g e) : 0 ≤ e := by
  rcases hg with ⟨-, h0⟩ | ⟨x, -, hx⟩
  · exact h0.ge
  · exact hx ▸ (h.pos x).le

/-- The exponential of a score less a real is the weight scaled. -/
theorem Scored.exp_sub {φ : EReal → EReal} {ψ : ℝ → ℝ} (h : IsExp φ ψ) {g : EReal} {e : ℝ} (hg : Scored ψ g e) (M : ℝ) :
    φ (g - M) = ((ψ (-M) * e : ℝ) : EReal) := by
  rcases hg with ⟨rfl, rfl⟩ | ⟨x, rfl, rfl⟩
  · rw [EReal.bot_sub, h.bot, mul_zero, EReal.coe_zero]
  · rw [← EReal.coe_sub, h.coe, h.sub]

/-- The greatest of several scores, one of them not masked, is a real. -/
theorem sup_real {ψ : ℝ → ℝ} (s : Finset ι) (g : ι → EReal) (e : ι → ℝ) (hg : ∀ i ∈ s, Scored ψ (g i) (e i))
    (i : ι) (hi : i ∈ s) (hne : g i ≠ ⊥) : ∃ M : ℝ, s.sup g = M := by
  have ht : s.sup g ≠ ⊤ := by
    refine ne_of_lt ((Finset.sup_lt_iff (bot_lt_top)).mpr fun j hj => ?_)
    rcases hg j hj with ⟨h, -⟩ | ⟨x, h, -⟩
    · rw [h]; exact bot_lt_top
    · rw [h]; exact EReal.coe_lt_top x
  have hb : s.sup g ≠ ⊥ := fun h => hne (le_bot_iff.mp (h ▸ Finset.le_sup hi))
  exact ⟨_, (EReal.coe_toReal ht hb).symm⟩

/-- The sum of the weights is positive as soon as one score is not masked. -/
theorem weights_pos {φ : EReal → EReal} {ψ : ℝ → ℝ} (h : IsExp φ ψ) (s : Finset ι) (g : ι → EReal) (e : ι → ℝ)
    (hg : ∀ i ∈ s, Scored ψ (g i) (e i)) (i : ι) (hi : i ∈ s) (hne : g i ≠ ⊥) : 0 < ∑ j ∈ s, e j := by
  refine Finset.sum_pos' (fun j hj => (hg j hj).nonneg h) ⟨i, hi, ?_⟩
  rcases hg i hi with ⟨h', -⟩ | ⟨x, -, hx⟩
  · exact absurd h' hne
  · exact hx ▸ h.pos x

/-- A softmax average, whatever base: the maximum subtracted drops out. -/
theorem softmax_average {φ : EReal → EReal} {ψ : ℝ → ℝ} (h : IsExp φ ψ) (s : Finset ι) (g : ι → EReal) (e : ι → ℝ)
    (hg : ∀ i ∈ s, Scored ψ (g i) (e i)) (i : ι) (hi : i ∈ s) (hne : g i ≠ ⊥) (v : ι → EReal) :
    Ideal.div (∑ j ∈ s, φ (g j - s.sup g) * v j) (∑ j ∈ s, φ (g j - s.sup g))
      = ∑ j ∈ s, ((e j / ∑ k ∈ s, e k : ℝ) : EReal) * v j := by
  obtain ⟨M, hM⟩ := sup_real s g e hg i hi hne
  rw [hM, ← weighted s (ψ (-M)) (h.pos _) e (weights_pos h s g e hg i hi hne) v]
  congr 1
  · exact Finset.sum_congr rfl fun j hj => by rw [(hg j hj).exp_sub h]
  · exact Finset.sum_congr rfl fun j hj => by rw [(hg j hj).exp_sub h]

/-- The log-sum-exp of a window is the logarithm of its total weight. -/
theorem log_sum_exp (s : Finset ι) (g : ι → EReal) (e : ι → ℝ)
    (hg : ∀ i ∈ s, Scored Real.exp (g i) (e i)) (i : ι) (hi : i ∈ s) (hne : g i ≠ ⊥) :
    s.sup g + Ideal.log (∑ j ∈ s, Ideal.exp (g j - s.sup g)) = ((Real.log (∑ j ∈ s, e j) : ℝ) : EReal) := by
  obtain ⟨M, hM⟩ := sup_real s g e hg i hi hne
  have hpos := weights_pos isExp_exp s g e hg i hi hne
  have hsum : ∑ j ∈ s, Ideal.exp (g j - (M : EReal)) = ((Real.exp (-M) * ∑ j ∈ s, e j : ℝ) : EReal) := by
    rw [Finset.mul_sum, ← coe_sum]
    exact Finset.sum_congr rfl fun j hj => (hg j hj).exp_sub isExp_exp M
  have hp : 0 < Real.exp (-M) * ∑ j ∈ s, e j := mul_pos (Real.exp_pos _) hpos
  rw [hM, hsum, Ideal.log_coe, if_neg (not_le.mpr hp), ← EReal.coe_add,
    Real.log_mul (Real.exp_pos _).ne' hpos.ne', Real.log_exp]
  congr 1; ring

/-- Averages of several windows, weighted by the windows' total weights, are one average. -/
theorem merged {κ : Type} (W : Finset ι) (s : Finset κ) (H : ι → κ → ℝ) (hH : ∀ w k, 0 ≤ H w k)
    (hS : ∀ w ∈ W, 0 < ∑ k ∈ s, H w k) (v : κ → EReal) :
    ∑ w ∈ W, (((∑ k ∈ s, H w k) / ∑ u ∈ W, ∑ k ∈ s, H u k : ℝ) : EReal)
        * ∑ k ∈ s, ((H w k / ∑ l ∈ s, H w l : ℝ) : EReal) * v k
      = ∑ k ∈ s, (((∑ w ∈ W, H w k) / ∑ l ∈ s, ∑ u ∈ W, H u l : ℝ) : EReal) * v k := by
  have hT : ∑ u ∈ W, ∑ k ∈ s, H u k = ∑ l ∈ s, ∑ u ∈ W, H u l := Finset.sum_comm
  have h0 : 0 ≤ ∑ l ∈ s, ∑ u ∈ W, H u l := Finset.sum_nonneg fun l _ => Finset.sum_nonneg fun u _ => hH u l
  rw [hT]
  have step : ∀ w ∈ W, (((∑ k ∈ s, H w k) / ∑ l ∈ s, ∑ u ∈ W, H u l : ℝ) : EReal)
        * ∑ k ∈ s, ((H w k / ∑ l ∈ s, H w l : ℝ) : EReal) * v k
      = ∑ k ∈ s, ((H w k / ∑ l ∈ s, ∑ u ∈ W, H u l : ℝ) : EReal) * v k := by
    intro w hw
    have hw' := (hS w hw).ne'
    rw [real_mul_sum _ _ (div_nonneg (hS w hw).le h0)]
    refine Finset.sum_congr rfl fun k _ => ?_
    rw [← mul_assoc, ← EReal.coe_mul]
    congr 2
    rw [div_mul_div_comm, mul_comm, mul_div_mul_right _ _ hw']
  rw [Finset.sum_congr rfl step, Finset.sum_comm]
  refine Finset.sum_congr rfl fun k _ => ?_
  rw [sum_real_mul _ _ (fun w => div_nonneg (hH w k) h0), Finset.sum_div]

/-- A sum over a stretch of keys, counted from its first one. -/
theorem sum_keys (lo w hi : ℕ) (h : lo + w = hi) (f : ℕ → EReal) :
    ∑ j : Fin w, f (lo + j.val) = ∑ k ∈ Finset.Ico lo hi, f k := by
  subst h
  rw [Finset.sum_Ico_eq_sum_range, Nat.add_sub_cancel_left, Finset.sum_range]

/-- The same for the greatest entry. -/
theorem max_keys (lo w hi : ℕ) (h : lo + w = hi) (f : ℕ → EReal) :
    Finset.fold max ⊥ (fun j : Fin w => f (lo + j.val)) Finset.univ = (Finset.Ico lo hi).sup f := by
  subst h
  show Finset.univ.sup (fun j : Fin w => f (lo + j.val)) = _
  refine le_antisymm (Finset.sup_le fun j _ => ?_) (Finset.sup_le fun k hk => ?_)
  · exact Finset.le_sup (f := f) (Finset.mem_Ico.mpr ⟨by omega, by omega⟩)
  · obtain ⟨h1, h2⟩ := Finset.mem_Ico.mp hk
    have := Finset.le_sup (f := fun j : Fin w => f (lo + j.val)) (Finset.mem_univ (⟨k - lo, by omega⟩ : Fin w))
    rwa [show lo + (k - lo) = k by omega] at this

end Dil

end
-- ==== Proof.DilBlock.lean ====
module

public import proofs.«01_k».proof.Proof.Gen.KernelIdeal.Skeleton
public import Idealize.ShloMosaic.Lib.Pipeline.ValueKit
public import proofs.«01_k».proof.Proof.DilMath

/-!
# One tile of the dilated attention

A tile is 256 query rows.  Its keys are the rows up to its last one, at most 2304 of them.  The score
of a query row and a key is their dot product plus a bias: the base-two logarithm of how many of the
three dilated windows hold the key, or `⊥` where none does.  This module names these functions and says
that every value the kernel stores is one of them, entry by entry.
-/

@[expose] public section

set_option maxRecDepth 16384

noncomputable section

namespace Dil

open Idealize.ShloMosaic Cert.KernelIdeal Cert.KernelIdeal.Gen

/-- Row `r` of a head, as a function of a natural number (rows past the end do not occur). -/
def rowAt (x : S1x8192x128.Idx → EReal) (r : ℕ) (d : Fin 128) : EReal := if h : r < 8192 then x (ix3 0 ⟨r, h⟩ d) else 0

/-- A row inside the head. -/
theorem rowAt_lt (x : S1x8192x128.Idx → EReal) {r : ℕ} (h : r < 8192) (d : Fin 128) : rowAt x r d = x (ix3 0 ⟨r, h⟩ d) :=
  dif_pos h

/-- Key `κ` lies in the window of length `win` and dilation `dil` that ends at query row `r`. -/
def hit (win dil r κ : ℕ) : Bool := decide (κ ≤ r ∧ r - κ ≤ win ∧ (r - κ) % dil = 0)

/-- One for a key in the window, zero otherwise. -/
def one (win dil r κ : ℕ) : ℝ := if hit win dil r κ then 1 else 0

/-- In how many of the three windows a key lies. -/
def cnt (r κ : ℕ) : ℝ := one 128 1 r κ + one 512 4 r κ + one 2048 16 r κ

/-- The bias of a key. -/
def bias (r κ : ℕ) : EReal := if 0 < cnt r κ then ((Real.log (cnt r κ) * (Real.log 2)⁻¹ : ℝ) : EReal) else ⊥

/-- The score of query row `r` and key `κ`. -/
def sc (q k : S1x8192x128.Idx → EReal) (r κ : ℕ) : EReal := ∑ d, rowAt q r d * rowAt k κ d + bias r κ

/-- The row after the last key of a row's tile. -/
def hiOf (r : ℕ) : ℕ := 256 * (r / 256 + 1)

/-- The keys a row's tile reads. -/
def keys (r : ℕ) : Finset ℕ := Finset.Ico (hiOf r - 2304) (hiOf r)

/-- The attention of one query row: the softmax average, base two, of the value rows. -/
def attn (q k v : S1x8192x128.Idx → EReal) (r : ℕ) (d : Fin 128) : EReal :=
  Ideal.div (∑ κ ∈ keys r, Ideal.exp2 (sc q k r κ - (keys r).sup (sc q k r)) * rowAt v κ d)
    (∑ κ ∈ keys r, Ideal.exp2 (sc q k r κ - (keys r).sup (sc q k r)))

/-- The softmax average of a row of scores, as the kernel computes it. -/
def average {w : ℕ} (g v : Fin w → EReal) : EReal :=
  Ideal.div (∑ x, Ideal.exp2 (g x - Finset.fold max (Ideal.ofBits FTy.f32 4286578688#32) (fun x => g x) Finset.univ) * v x)
    (∑ x, Ideal.exp2 (g x - Finset.fold max (Ideal.ofBits FTy.f32 4286578688#32) (fun x => g x) Finset.univ))

/-- The bits of minus infinity. -/
theorem minus_inf : Ideal.ofBits FTy.f32 4286578688#32 = ⊥ := by
  simp [Ideal.ofBits, Ideal.ieee]

/-- A row of scores averaged is the attention of that row. -/
theorem average_eq (q k v : S1x8192x128.Idx → EReal) (r lo w : ℕ) (d : Fin 128) (hlo : lo = hiOf r - 2304) (hw : lo + w = hiOf r)
    (g u : Fin w → EReal) (hg : ∀ j, g j = sc q k r (lo + j.val)) (hu : ∀ j, u j = rowAt v (lo + j.val) d) :
    average g u = attn q k v r d := by
  obtain rfl : g = fun j => sc q k r (lo + j.val) := funext hg
  obtain rfl : u = fun j => rowAt v (lo + j.val) d := funext hu
  unfold average attn keys
  rw [minus_inf, max_keys lo w (hiOf r) hw (sc q k r), ← hlo]
  congr 1
  · exact sum_keys lo w (hiOf r) hw fun κ => Ideal.exp2 (sc q k r κ - (Finset.Ico lo (hiOf r)).sup (sc q k r)) * rowAt v κ d
  · exact sum_keys lo w (hiOf r) hw fun κ => Ideal.exp2 (sc q k r κ - (Finset.Ico lo (hiOf r)).sup (sc q k r))

/-! ## The bias table -/

/-- The kernel's test of a key against a window: the distance is not negative, not beyond the window, and a multiple of the dilation. -/
def test (D W mask : BitVec 32) : BitVec 1 :=
  IntOp.andi (IntOp.andi (IntOp.cmpi CmpIPredicate.sge D 0#32) (IntOp.cmpi CmpIPredicate.sle D W))
    (IntOp.cmpi CmpIPredicate.eq (IntOp.andi D mask) 0#32)

/-- The test on every distance that occurs, shifted to be a natural number. -/
theorem test_table : ∀ n : Fin 2559,
    (test (BitVec.ofNat 32 n.val - 255#32) 128#32 0#32 = if 255 ≤ n.val ∧ n.val - 255 ≤ 128 ∧ (n.val - 255) % 1 = 0 then 1#1 else 0#1)
    ∧ (test (BitVec.ofNat 32 n.val - 255#32) 512#32 3#32 = if 255 ≤ n.val ∧ n.val - 255 ≤ 512 ∧ (n.val - 255) % 4 = 0 then 1#1 else 0#1)
    ∧ (test (BitVec.ofNat 32 n.val - 255#32) 2048#32 15#32 = if 255 ≤ n.val ∧ n.val - 255 ≤ 2048 ∧ (n.val - 255) % 16 = 0 then 1#1 else 0#1) := by
  decide +kernel

/-- The distance the kernel computes for row `r` and column `j` of its table. -/
theorem distance (r : Fin 256) (j : Fin 2304) :
    IntOp.subi (IntOp.addi (BitVec.ofNat 32 r.val) 2048#32) (BitVec.ofNat 32 j.val)
      = BitVec.ofNat 32 (r.val + 2303 - j.val) - 255#32 := by
  have h1 := r.isLt; have h2 := j.isLt
  show BitVec.ofNat 32 r.val + 2048#32 - BitVec.ofNat 32 j.val = _
  apply BitVec.eq_of_toNat_eq
  simp only [BitVec.toNat_sub, BitVec.toNat_add, BitVec.toNat_ofNat]
  omega

/-- One of the three indicators. -/
theorem select_one (win dil : ℕ) (W mask : BitVec 32) (r : Fin 256) (j : Fin 2304) (R κ : ℕ) (hR : R + j.val = κ + (r.val + 2048))
    (ht : test (BitVec.ofNat 32 (r.val + 2303 - j.val) - 255#32) W mask
      = if 255 ≤ r.val + 2303 - j.val ∧ r.val + 2303 - j.val - 255 ≤ win ∧ (r.val + 2303 - j.val - 255) % dil = 0 then 1#1 else 0#1) :
    (Scalar.select (test (IntOp.subi (IntOp.addi (BitVec.ofNat 32 r.val) 2048#32) (BitVec.ofNat 32 j.val)) W mask) (1 : EReal) 0)
      = (one win dil R κ : EReal) := by
  have h1 := r.isLt; have h2 := j.isLt
  have hc : (255 ≤ r.val + 2303 - j.val ∧ r.val + 2303 - j.val - 255 ≤ win ∧ (r.val + 2303 - j.val - 255) % dil = 0)
      ↔ (κ ≤ R ∧ R - κ ≤ win ∧ (R - κ) % dil = 0) := by
    by_cases hle : κ ≤ R
    · have e : r.val + 2303 - j.val - 255 = R - κ := by omega
      rw [e]
      exact and_congr_left fun _ => by omega
    · exact ⟨fun h => absurd h.1 (by omega), fun h => absurd h.1 hle⟩
  rw [distance, ht]
  unfold one hit Scalar.select
  by_cases h : κ ≤ R ∧ R - κ ≤ win ∧ (R - κ) % dil = 0
  · rw [if_pos (hc.mpr h), decide_eq_true h]; simp
  · rw [if_neg (fun h' => h (hc.mp h')), decide_eq_false h]; simp

/-- The count is zero or at least one. -/
theorem cnt_cases (r κ : ℕ) : cnt r κ = 0 ∨ 1 ≤ cnt r κ := by
  unfold cnt one
  split_ifs <;> norm_num

/-- The kernel's table of biases: row `r`, column `j` is the bias of any query and key at that distance. -/
theorem bias_table (r : Fin 256) (j : Fin 2304) (R b : ℕ) (hR : R + j.val = b + (r.val + 2048)) :
    (k0_pay14 k0_pay3 k0_pay4 k0_pay5 k0_pay6 : FVec Ideal _ _) (ix2 r j) = bias R b := by
  have h1 := r.isLt; have h2 := j.isLt
  have ht := test_table ⟨r.val + 2303 - j.val, by omega⟩
  have e1 := select_one 128 1 _ _ r j R b hR ht.1
  have e2 := select_one 512 4 _ _ r j R b hR ht.2.1
  have e3 := select_one 2048 16 _ _ r j R b hR ht.2.2
  unfold test at e1 e2 e3
  have n1 : Named.named (F := Ideal) κ (φ := .f32) "log2e" 1069066811#32 = (((Real.log 2)⁻¹ : ℝ) : EReal) := by
    rfl
  have n2 : Named.named (F := Ideal) κ (φ := .f32) "mask" 4048155338#32 = (⊥ : EReal) := by
    rfl
  pointwise [k0_pay14, k0_pay3, k0_pay4, k0_pay5, k0_pay6, k0_pay2]
  rw [e1, e2, e3, n1, n2]
  have hsum : (one 128 1 R b : EReal) + (one 512 4 R b : EReal) + (one 2048 16 R b : EReal) = (cnt R b : EReal) := by
    unfold cnt; push_cast; rfl
  rw [hsum]
  unfold bias
  rcases cnt_cases R b with h | h
  · rw [h]; simp
  · have hp : 0 < cnt R b := lt_of_lt_of_le one_pos h
    rw [if_pos (EReal.coe_pos.mpr hp), if_pos hp,
      max_eq_left (show (1 : EReal) ≤ (cnt R b : EReal) from EReal.coe_le_coe_iff.mpr h), Ideal.log_coe,
      if_neg (not_le.mpr hp), EReal.coe_mul]

/-! ## The values stored -/

/-- A table of scores: row `r`, column `j` is the score of query row `256 t + r` and key `lo + j`. -/
def Scores (q k : S1x8192x128.Idx → EReal) (t lo : ℕ) {w : ℕ} (s : (⟨2, ![256, w]⟩ : Shape).Idx → EReal) : Prop :=
  ∀ (r : Fin 256) (j : Fin w), s (ix2 r j) = sc q k (256 * t + r.val) (lo + j.val)

/-- Some consecutive rows of a head, starting at row `o`. -/
def Rows (x : S1x8192x128.Idx → EReal) (o : ℕ) {n : ℕ} (a : (⟨3, ![1, n, 128]⟩ : Shape).Idx → EReal) : Prop :=
  ∀ (r : Fin n) (d : Fin 128), a (ix3 0 r d) = rowAt x (o + r.val) d

/-- A strip of the bias table: row `r`, column `j` is the bias of query row `256 t + r` and key `lo + j`. -/
def Strip (t lo : ℕ) {w : ℕ} (s : (⟨2, ![256, w]⟩ : Shape).Idx → EReal) : Prop :=
  ∀ (r : Fin 256) (j : Fin w), s (ix2 r j) = bias (256 * t + r.val) (lo + j.val)

/-- A tile of the result: row `r` is the attention of query row `256 t + r`. -/
def Tile (q k v : S1x8192x128.Idx → EReal) (t : ℕ) (o : S256x128.Idx → EReal) : Prop :=
  ∀ (r : Fin 256) (d : Fin 128), o (ix2 r d) = attn q k v (256 * t + r.val) d

variable {q k v : S1x8192x128.Idx → EReal} {t lo o : ℕ}

/-- Dot products plus biases are scores. -/
theorem scores_of {w : ℕ} {s : (⟨2, ![256, w]⟩ : Shape).Idx → EReal} {a : S1x256x128.Idx → EReal}
    {b : (⟨3, ![1, w, 128]⟩ : Shape).Idx → EReal} {c : (⟨2, ![256, w]⟩ : Shape).Idx → EReal}
    (ha : Rows q (256 * t) a) (hb : Rows k lo b) (hc : Strip t lo c)
    (h : ∀ (r : Fin 256) (j : Fin w), s (ix2 r j) = ∑ x, a (ix3 0 r x) * b (ix3 0 j x) + c (ix2 r j)) : Scores q k t lo s := by
  intro r j
  rw [h r j, hc r j]
  unfold sc
  congr 1
  exact Finset.sum_congr rfl fun x _ => by rw [ha r x, hb j x]

/-- Averages of scores are a tile of the result. -/
theorem tile_of {w : ℕ} (hlo : lo = 256 * (t + 1) - 2304) (hw : lo + w = 256 * (t + 1))
    {s : (⟨2, ![256, w]⟩ : Shape).Idx → EReal} {b : (⟨3, ![1, w, 128]⟩ : Shape).Idx → EReal} {u : S256x128.Idx → EReal}
    (hs : Scores q k t lo s) (hb : Rows v lo b)
    (h : ∀ (r : Fin 256) (d : Fin 128), u (ix2 r d) = average (fun x => s (ix2 r x)) (fun x => b (ix3 0 x d))) : Tile q k v t u := by
  intro r d
  have h1 := r.isLt
  have e : hiOf (256 * t + r.val) = 256 * (t + 1) := by
    unfold hiOf; congr 2; omega
  rw [h r d]
  exact average_eq q k v _ lo w d (e ▸ hlo) (e ▸ hw) _ _ (fun j => hs r j) fun j => hb j d

section Payloads

/-- The scores of tile 0, from its queries, its keys and its part of the bias. -/
theorem score0 {a : S1x256x128.Idx → EReal} {b : S1x256x128.Idx → EReal} {c : S256x256.Idx → EReal}
    (ha : Rows q (256 * t) a) (hb : Rows k lo b) (hc : Strip t lo c) : Scores q k t lo (k0_pay15 (F := Ideal) a b c) :=
  scores_of ha hb hc fun r j => by pointwise [k0_pay15]

/-- The scores of tile 1, from its queries, its keys and its part of the bias. -/
theorem score1 {a : S1x256x128.Idx → EReal} {b : S1x512x128.Idx → EReal} {c : S256x512.Idx → EReal}
    (ha : Rows q (256 * t) a) (hb : Rows k lo b) (hc : Strip t lo c) : Scores q k t lo (k0_pay16 (F := Ideal) a b c) :=
  scores_of ha hb hc fun r j => by pointwise [k0_pay16]

/-- The scores of tile 2, from its queries, its keys and its part of the bias. -/
theorem score2 {a : S1x256x128.Idx → EReal} {b : S1x768x128.Idx → EReal} {c : S256x768.Idx → EReal}
    (ha : Rows q (256 * t) a) (hb : Rows k lo b) (hc : Strip t lo c) : Scores q k t lo (k0_pay19 (F := Ideal) a b c) :=
  scores_of ha hb hc fun r j => by pointwise [k0_pay19]

/-- The scores of tile 3, from its queries, its keys and its part of the bias. -/
theorem score3 {a : S1x256x128.Idx → EReal} {b : S1x1024x128.Idx → EReal} {c : S256x1024.Idx → EReal}
    (ha : Rows q (256 * t) a) (hb : Rows k lo b) (hc : Strip t lo c) : Scores q k t lo (k0_pay24 (F := Ideal) a b c) :=
  scores_of ha hb hc fun r j => by pointwise [k0_pay24]

/-- The scores of tile 4, from its queries, its keys and its part of the bias. -/
theorem score4 {a : S1x256x128.Idx → EReal} {b : S1x1280x128.Idx → EReal} {c : S256x1280.Idx → EReal}
    (ha : Rows q (256 * t) a) (hb : Rows k lo b) (hc : Strip t lo c) : Scores q k t lo (k0_pay26 (F := Ideal) a b c) :=
  scores_of ha hb hc fun r j => by pointwise [k0_pay26]

/-- The scores of tile 5, from its queries, its keys and its part of the bias. -/
theorem score5 {a : S1x256x128.Idx → EReal} {b : S1x1536x128.Idx → EReal} {c : S256x1536.Idx → EReal}
    (ha : Rows q (256 * t) a) (hb : Rows k lo b) (hc : Strip t lo c) : Scores q k t lo (k0_pay29 (F := Ideal) (k0_pay28 a b) c) :=
  scores_of ha hb hc fun r j => by pointwise [k0_pay29, k0_pay28]

/-- The scores of tile 6, from its queries, its keys and its part of the bias. -/
theorem score6 {a : S1x256x128.Idx → EReal} {b : S1x1792x128.Idx → EReal} {c : S256x1792.Idx → EReal}
    (ha : Rows q (256 * t) a) (hb : Rows k lo b) (hc : Strip t lo c) : Scores q k t lo (k0_pay31 (F := Ideal) a b c) :=
  scores_of ha hb hc fun r j => by pointwise [k0_pay31]

/-- The scores of tile 7, from its queries, its keys and its part of the bias. -/
theorem score7 {a : S1x256x128.Idx → EReal} {b : S1x2048x128.Idx → EReal} {c : S256x2048.Idx → EReal}
    (ha : Rows q (256 * t) a) (hb : Rows k lo b) (hc : Strip t lo c) : Scores q k t lo (k0_pay33 (F := Ideal) a b c) :=
  scores_of ha hb hc fun r j => by pointwise [k0_pay33]

variable {a : S1x256x128.Idx → EReal} {b : S1x2304x128.Idx → EReal} {c : S256x2304.Idx → EReal}

/-- The scores of the first tile whose strip does not start at the first key. -/
theorem score8 (ha : Rows q (256 * t) a) (hb : Rows k lo b) (hc : Strip t lo c) : Scores q k t lo (k0_pay38 (F := Ideal) a b c) :=
  scores_of ha hb hc fun r j => by pointwise [k0_pay38]

/-- The scores of an odd tile in the loop. -/
theorem score_odd (ha : Rows q (256 * t) a) (hb : Rows k lo b) (hc : Strip t lo c) : Scores q k t lo (k0_pay7 (F := Ideal) a b c) :=
  scores_of ha hb hc fun r j => by pointwise [k0_pay7]

/-- The scores of an even tile in the loop. -/
theorem score_even (ha : Rows q (256 * t) a) (hb : Rows k lo b) (hc : Strip t lo c) : Scores q k t lo (k0_pay12 (F := Ideal) a b c) :=
  scores_of ha hb hc fun r j => by pointwise [k0_pay12]

/-- The scores of the last tile. -/
theorem score31 (ha : Rows q (256 * t) a) (hb : Rows k lo b) (hc : Strip t lo c) : Scores q k t lo (k0_pay41 (F := Ideal) a b c) :=
  scores_of ha hb hc fun r j => by pointwise [k0_pay41]

/-- The result of tile 0, from its scores and its values. -/
theorem tile0 {s : S256x256.Idx → EReal} {b : S1x256x128.Idx → EReal} (hs : Scores q k 0 0 s) (hb : Rows v 0 b) :
    Tile q k v 0 (k0_pay18 (F := Ideal) (k0_pay17 s) b) :=
  tile_of rfl rfl hs hb fun r d => by pointwise [k0_pay18, k0_pay17]; rfl

/-- The result of tile 1, from its scores and its values. -/
theorem tile1 {s : S256x512.Idx → EReal} {b : S1x512x128.Idx → EReal} (hs : Scores q k 1 0 s) (hb : Rows v 0 b) :
    Tile q k v 1 (k0_pay23 (F := Ideal) (k0_pay21 s) (k0_pay22 s b)) :=
  tile_of rfl rfl hs hb fun r d => by pointwise [k0_pay23, k0_pay22, k0_pay21, k0_pay20]; rfl

/-- The result of tile 2, from its scores and its values. -/
theorem tile2 {s : S256x768.Idx → EReal} {b : S1x768x128.Idx → EReal} (hs : Scores q k 2 0 s) (hb : Rows v 0 b) :
    Tile q k v 2 (k0_pay25 (F := Ideal) s b) :=
  tile_of rfl rfl hs hb fun r d => by pointwise [k0_pay25]; rfl

/-- The result of tile 3, from its scores and its values. -/
theorem tile3 {s : S256x1024.Idx → EReal} {b : S1x1024x128.Idx → EReal} (hs : Scores q k 3 0 s) (hb : Rows v 0 b) :
    Tile q k v 3 (k0_pay27 (F := Ideal) s b) :=
  tile_of rfl rfl hs hb fun r d => by pointwise [k0_pay27]; rfl

/-- The result of tile 4, from its scores and its values. -/
theorem tile4 {s : S256x1280.Idx → EReal} {b : S1x1280x128.Idx → EReal} (hs : Scores q k 4 0 s) (hb : Rows v 0 b) :
    Tile q k v 4 (k0_pay30 (F := Ideal) s b) :=
  tile_of rfl rfl hs hb fun r d => by pointwise [k0_pay30]; rfl

/-- The result of tile 5, from its scores and its values. -/
theorem tile5 {s : S256x1536.Idx → EReal} {b : S1x1536x128.Idx → EReal} (hs : Scores q k 5 0 s) (hb : Rows v 0 b) :
    Tile q k v 5 (k0_pay32 (F := Ideal) s b) :=
  tile_of rfl rfl hs hb fun r d => by pointwise [k0_pay32]; rfl

/-- The result of tile 6, from its scores and its values. -/
theorem tile6 {s : S256x1792.Idx → EReal} {b : S1x1792x128.Idx → EReal} (hs : Scores q k 6 0 s) (hb : Rows v 0 b) :
    Tile q k v 6 (k0_pay37 (F := Ideal) (k0_pay35 s) (k0_pay36 s) b) :=
  tile_of rfl rfl hs hb fun r d => by pointwise [k0_pay37, k0_pay36, k0_pay35, k0_pay34]; rfl

/-- The result of tile 7, from its scores and its values. -/
theorem tile7 {s : S256x2048.Idx → EReal} {b : S1x2048x128.Idx → EReal} (hs : Scores q k 7 0 s) (hb : Rows v 0 b) :
    Tile q k v 7 (k0_pay39 (F := Ideal) s b) :=
  tile_of rfl rfl hs hb fun r d => by pointwise [k0_pay39]; rfl

variable {s : S256x2304.Idx → EReal} (hlo : lo = 256 * (t + 1) - 2304) (hw : lo + 2304 = 256 * (t + 1))
include hlo hw

/-- The result of an even tile in the loop. -/
theorem tile_even (hs : Scores q k t lo s) (hb : Rows v lo b) : Tile q k v t (k0_pay11 (F := Ideal) (k0_pay9 s) (k0_pay10 s) b) :=
  tile_of hlo hw hs hb fun r d => by pointwise [k0_pay11, k0_pay10, k0_pay9, k0_pay8]; rfl

/-- The result of an odd tile in the loop. -/
theorem tile_odd (hs : Scores q k t lo s) (hb : Rows v lo b) : Tile q k v t (k0_pay40 (F := Ideal) (k0_pay13 s) b) :=
  tile_of hlo hw hs hb fun r d => by pointwise [k0_pay40, k0_pay13]; rfl

/-- The result of the last tile but one. -/
theorem tile30 (hs : Scores q k t lo s) (hb : Rows v lo b) : Tile q k v t (k0_pay42 (F := Ideal) s b) :=
  tile_of hlo hw hs hb fun r d => by pointwise [k0_pay42]; rfl

/-- The result of the last tile. -/
theorem tile31 (hs : Scores q k t lo s) (hb : Rows v lo b) : Tile q k v t (k0_pay1 (F := Ideal) s b) :=
  tile_of hlo hw hs hb fun r d => by pointwise [k0_pay1]; rfl

end Payloads

end Dil

end
-- ==== Proof.DilTrip.lean ====
module

public import proofs.«01_k».proof.Proof.Gen.KernelIdeal.Loops
public import Idealize.ShloMosaic.Lib.Pipeline.ValueKit
public import proofs.«01_k».proof.Proof.DilBlock

/-!
# The steady loop of the dilated attention

Each trip of the loop scores one tile ahead of the tile it finishes, two tiles per trip.  What holds
before trip `k`: the rows written so far hold the attention, and the first scratch table holds the scores
of tile `8 + 2k`.
-/

@[expose] public section

set_option maxRecDepth 16384

noncomputable section

namespace Dil

open Idealize.ShloMosaic Cert.KernelIdeal Cert.KernelIdeal.Gen Idealize.ShloMosaic.TcCoe Idealize.SL.Sem

/-- The whole result of a head. -/
def out (q k v : S1x8192x128.Idx → EReal) : S8192x128.Idx → EReal := fun y => attn q k v (y 0).val (y 1)

/-- The table of biases, as the kernel fills it at the first grid point. -/
def biasBlock : S256x2304.Idx → EReal := (k0_pay14 k0_pay3 k0_pay4 k0_pay5 k0_pay6 : FVec Ideal S256x2304 .f32)

variable {x q k v : S1x8192x128.Idx → EReal}

/-! ## What the loads give -/

/-- Some rows of a head, loaded. -/
theorem rows_ld (o n : ℕ) (off : Fin 3 → ℕ) (inb : ∀ a, off a + (⟨3, ![1, n, 128]⟩ : Shape).size a ≤ S1x8192x128.size a)
    (hoff : off = ![0, o, 0]) :
    Rows x o (View.ld (Val := Elt Ideal) (e' := .bf16) x (Rect.unit (s := S1x8192x128) off (⟨3, ![1, n, 128]⟩ : Shape).size inb)) := by
  subst hoff
  intro r d
  have h : o + n ≤ 8192 := inb 1
  have hr := r.isLt
  rw [rowAt_lt x (show o + r.val < 8192 by omega)]
  refine congrArg x (funext fun a => Fin.ext ?_)
  refine (ValueKit.rect_emb_unit_val _ _ inb (ix3 0 r d) a).trans ?_
  fin_cases a
  · rfl
  · rfl
  · exact Nat.zero_add _

/-- Some rows of a head, read from a buffer that holds it. -/
theorem rows_read {arg : Memref sig .tc .vmem S1x8192x128 .bf16} {X : BufTy.Contents (Elt Ideal) arg.view.ty}
    (hX : arg.view.read (Elt Ideal) X = x) {o n : ℕ} {off : Fin 3 → ℕ}
    {inb : ∀ a, off a + (⟨3, ![1, n, 128]⟩ : Shape).size a ≤ S1x8192x128.size a} (hoff : off = ![0, o, 0]) :
    Rows x o (View.readAt (Elt Ideal) arg.view (Rect.unit (s := S1x8192x128) off (⟨3, ![1, n, 128]⟩ : Shape).size inb).toLoadRect X) := by
  subst hX
  exact rows_ld o n off inb hoff

/-- A strip of the bias table, loaded from column `2304 - w`. -/
theorem strip_ld {t lo w o : ℕ} (ho : o + w = 2304) (h : lo + w = 256 * (t + 1)) {off : Fin 2 → ℕ} (hoff : off = ![0, o])
    {inb : ∀ a, off a + (⟨2, ![256, w]⟩ : Shape).size a ≤ S256x2304.size a} :
    Strip t lo (View.ld (Val := Elt Ideal) (e' := .f32) biasBlock (Rect.unit (s := S256x2304) off (⟨2, ![256, w]⟩ : Shape).size inb)) := by
  subst hoff
  intro r j
  have hj := j.isLt
  rw [← bias_table r ⟨o + j.val, by omega⟩ (256 * t + r.val) (lo + j.val) (by show 256 * t + r.val + (o + j.val) = _; omega)]
  refine congrArg biasBlock (funext fun a => Fin.ext ?_)
  refine (ValueKit.rect_emb_unit_val _ _ inb (ix2 r j) a).trans ?_
  fin_cases a
  · exact Nat.zero_add _
  · rfl

/-- A strip of the bias table, read from a buffer that holds it. -/
theorem strip_read {arg : Memref sig .tc .vmem S256x2304 .f32} {X : BufTy.Contents (Elt Ideal) arg.view.ty}
    (hX : arg.view.read (Elt Ideal) X = biasBlock) {t lo w o : ℕ} (ho : o + w = 2304) (h : lo + w = 256 * (t + 1))
    {off : Fin 2 → ℕ} (hoff : off = ![0, o]) {inb : ∀ a, off a + (⟨2, ![256, w]⟩ : Shape).size a ≤ S256x2304.size a} :
    Strip t lo (View.readAt (Elt Ideal) arg.view (Rect.unit (s := S256x2304) off (⟨2, ![256, w]⟩ : Shape).size inb).toLoadRect X) := by
  have := strip_ld (t := t) (lo := lo) ho h hoff (inb := inb)
  rw [← hX] at this
  exact this

/-- A load of the whole table reads the table. -/
theorem whole_ld (X : S256x2304.Idx → EReal) (inb : ∀ a, (![0, 0] : Fin 2 → ℕ) a + S256x2304.size a ≤ S256x2304.size a) :
    View.ld (Val := Elt Ideal) (e' := .f32) X (Rect.unit (s := S256x2304) ![0, 0] S256x2304.size inb) = X := by
  funext y
  refine congrArg X (funext fun a => Fin.ext ?_)
  refine (ValueKit.rect_emb_unit_val _ _ inb y a).trans ?_
  fin_cases a <;> exact Nat.zero_add _

/-- After a write of the whole table, reading gives what was written. -/
theorem read_whole (arg : Memref sig .tc .vmem S256x2304 .f32) (f : BufTy.Contents (Elt Ideal) arg.view.ty)
    (inb : ∀ a, (![0, 0] : Fin 2 → ℕ) a + S256x2304.size a ≤ S256x2304.size a) (w : S256x2304.Idx → EReal)
    (L : List (View.Piece (Elt Ideal) S256x2304 .f32)) :
    arg.view.read (Elt Ideal) (arg.view.writes (Elt Ideal) f (⟨Rect.unit (s := S256x2304) ![0, 0] S256x2304.size inb, w⟩ :: L)) = w := by
  have h : View.ld (Val := Elt Ideal) (e' := .f32) (arg.view.read (Elt Ideal)
      (arg.view.writes (Elt Ideal) f (⟨Rect.unit (s := S256x2304) ![0, 0] S256x2304.size inb, w⟩ :: L)))
      (Rect.unit (s := S256x2304) ![0, 0] S256x2304.size inb) = w :=
    funext fun y => View.read_writes_cons_emb arg.view f (Rect.unit (s := S256x2304) ![0, 0] S256x2304.size inb) w L y
  rwa [whole_ld] at h

/-- Scores just stored are what the next load of them reads. -/
theorem scores_stored {t lo w : ℕ} (arg : Memref sig .tc .vmem S256x2304 .f32) (inb : ∀ a, (![0, 0] : Fin 2 → ℕ) a + (⟨2, ![256, w]⟩ : Shape).size a ≤ S256x2304.size a)
    {s : (⟨2, ![256, w]⟩ : Shape).Idx → EReal} (L : List (View.Piece (Elt Ideal) S256x2304 .f32)) (h : Scores q k t lo s) :
    Scores q k t lo (w := w) (arg.view.readCov (Val := Elt Ideal) (⟨Rect.unit (s := S256x2304) ![0, 0] (⟨2, ![256, w]⟩ : Shape).size inb, s⟩ :: L)
      (Rect.unit (s := S256x2304) ![0, 0] (⟨2, ![256, w]⟩ : Shape).size inb).toLoadRect) := by
  rw [View.readCov_cons_toLoadRect]
  exact h

/-- The same for a whole table, as contents of the buffer. -/
theorem scores_written {t lo : ℕ} (arg : Memref sig .tc .vmem S256x2304 .f32) (f : BufTy.Contents (Elt Ideal) arg.view.ty)
    (inb : ∀ a, (![0, 0] : Fin 2 → ℕ) a + S256x2304.size a ≤ S256x2304.size a)
    {s : S256x2304.Idx → EReal} (L : List (View.Piece (Elt Ideal) S256x2304 .f32)) (h : Scores q k t lo s) :
    Scores q k t lo (w := 2304) (arg.view.read (Elt Ideal)
      (arg.view.writes (Elt Ideal) f (⟨Rect.unit (s := S256x2304) ![0, 0] S256x2304.size inb, s⟩ :: L))) := by
  rw [read_whole]
  exact h

/-- A whole table of scores left by further writes is what the next load of the table reads. -/
theorem scores_loaded {t lo t' lo' : ℕ} (arg : Memref sig .tc .vmem S256x2304 .f32)
    (inb : ∀ a, (![0, 0] : Fin 2 → ℕ) a + S256x2304.size a ≤ S256x2304.size a) (L T : List (View.Piece (Elt Ideal) S256x2304 .f32))
    (ht : t' = t) (hlo : lo' = lo)
    (h : Scores q k t' lo' (w := 2304) (arg.view.read (Elt Ideal) (arg.view.writes (Elt Ideal) (arg.view.writes (Elt Ideal) arg.view.junk L) T))) :
    Scores q k t lo (w := 2304) (arg.view.readCov (Val := Elt Ideal) (T ++ L) (Rect.unit (s := S256x2304) ![0, 0] S256x2304.size inb).toLoadRect) := by
  subst ht hlo
  rw [← View.writes_append, ← whole_ld (arg.view.read (Elt Ideal) _) inb] at h
  exact h

/-- A tile of the result, as a piece: the piece's entries are those of the whole result. -/
theorem piece_ok {t : ℕ} {u : S256x128.Idx → EReal} (hu : Tile q k v t u) {off : Fin 2 → ℕ} (hoff : off = ![256 * t, 0])
    (inb : ∀ a, off a + S256x128.size a ≤ S8192x128.size a) (y : (Rect.unit (s := S8192x128) off S256x128.size inb).shape.Idx) :
    u y = out q k v ((Rect.unit (s := S8192x128) off S256x128.size inb).emb y) := by
  subst hoff
  obtain ⟨r, d, rfl⟩ : ∃ (r : Fin 256) (d : Fin 128), y = ix2 r d := ⟨y 0, y 1, by funext a; fin_cases a <;> rfl⟩
  rw [hu r d]
  have h0 := ValueKit.rect_emb_unit_val (s := S8192x128) ![256 * t, 0] S256x128.size inb (ix2 r d) 0
  have h1 := ValueKit.rect_emb_unit_val (s := S8192x128) ![256 * t, 0] S256x128.size inb (ix2 r d) 1
  unfold out
  rw [h0]
  refine congrArg _ (Fin.ext ?_)
  rw [h1]
  exact (Nat.zero_add _).symm

/-- A row of a tile is in the tile's piece. -/
theorem piece_covers {t : ℕ} {off : Fin 2 → ℕ} (hoff : off = ![256 * t, 0])
    (inb : ∀ a, off a + S256x128.size a ≤ S8192x128.size a) (y : S8192x128.Idx) (h : (y 0).val / 256 = t) :
    y ∈ (Rect.unit (s := S8192x128) off S256x128.size inb).set := by
  subst hoff
  rw [Rect.mem_set_unit]
  intro a
  fin_cases a
  · exact ⟨show 256 * t ≤ (y 0).val by omega, show (y 0).val < 256 * t + 256 by omega⟩
  · exact ⟨Nat.zero_le _, by have := (y 1).isLt; show (y 1).val < 0 + 128; simpa using this⟩

/-! ## The offsets of a trip -/

/-- The loop runs eleven times. -/
theorem trips_eq : k0_t1_loop.trips = 11 := by decide +kernel

/-- Where the first tile of a trip reads its queries. -/
theorem off1_one : ∀ k : Fin k0_t1_loop.trips, k0_off1 k 1#32 = ![0, 256 * (9 + 2 * k.val), 0] := by decide +kernel
/-- Where the second tile of a trip reads its queries. -/
theorem off1_two : ∀ k : Fin k0_t1_loop.trips, k0_off1 k 2#32 = ![0, 256 * (10 + 2 * k.val), 0] := by decide +kernel
/-- Where the first tile of a trip reads its keys. -/
theorem off2_one : ∀ k : Fin k0_t1_loop.trips, k0_off2 k 1#32 = ![0, 512 * k.val + 256, 0] := by decide +kernel
/-- Where the second tile of a trip reads its keys. -/
theorem off2_two : ∀ k : Fin k0_t1_loop.trips, k0_off2 k 2#32 = ![0, 512 * k.val + 512, 0] := by decide +kernel
/-- Where the earlier tile reads its values. -/
theorem off3_eq : ∀ k : Fin k0_t1_loop.trips, k0_off3 k = ![0, 512 * k.val, 0] := by decide +kernel
/-- Where the earlier tile is written. -/
theorem off4_eq : ∀ k : Fin k0_t1_loop.trips, k0_off4 k = ![256 * (8 + 2 * k.val), 0] := by decide +kernel
/-- Where the later tile is written. -/
theorem off5_eq : ∀ k : Fin k0_t1_loop.trips, k0_off5 k = ![256 * (9 + 2 * k.val), 0] := by decide +kernel

/-! ## The trips -/

variable (𝒱 : Variants) (c : Dev nD) (bd : Option 𝒱.V) (i : grid0.Coords)
  (arg1 : Memref sig .tc .vmem S1x8192x128 .bf16) (harg1 : arg1.IsWhole) (arg2 : Memref sig .tc .vmem S1x8192x128 .bf16) (harg2 : arg2.IsWhole)
  (arg3 : Memref sig .tc .vmem S1x8192x128 .bf16) (harg3 : arg3.IsWhole) (arg4 : Memref sig .tc .vmem S8192x128 .bf16) (harg4 : arg4.IsWhole)
  (arg5 : Memref sig .tc .vmem S256x2304 .f32) (harg5 : arg5.IsWhole) (arg6 : Memref sig .tc .vmem S256x2304 .f32) (harg6 : arg6.IsWhole)
  (arg7 : Memref sig .tc .vmem S256x2304 .f32) (harg7 : arg7.IsWhole) (v219 : FVec Ideal S256x128 .bf16)
  (X1 : BufTy.Contents (Elt Ideal) arg1.view.ty) (X2 : BufTy.Contents (Elt Ideal) arg2.view.ty)
  (X3 : BufTy.Contents (Elt Ideal) arg3.view.ty) (X5 : BufTy.Contents (Elt Ideal) arg5.view.ty)

/-- One trip: the two tiles it finishes agree with the result and cover their rows, and the first scratch table is left with the
    scores of the next tile. -/
theorem trip_spec (hX1 : arg1.view.read (Elt Ideal) X1 = q) (hX2 : arg2.view.read (Elt Ideal) X2 = k) (hX3 : arg3.view.read (Elt Ideal) X3 = v)
    (hX5 : arg5.view.read (Elt Ideal) X5 = biasBlock) (n : Fin k0_t1_loop.trips) (f4 : BufTy.Contents (Elt Ideal) arg4.view.ty)
    (f6 : BufTy.Contents (Elt Ideal) arg6.view.ty) (f7 : BufTy.Contents (Elt Ideal) arg7.view.ty)
    (h6 : Scores q k (8 + 2 * n.val) (512 * n.val) (arg6.view.read (Elt Ideal) f6)) :
    let T := tripL_k0_t1 (F := Ideal) 𝒱 c bd i arg1 harg1 arg2 harg2 arg3 harg3 arg4 harg4 arg5 harg5 arg6 harg6 arg7 harg7 v219 X1 X2 X3 X5 n f4 f6 f7
    (∀ p ∈ T.1, ∀ y, p.2 y = out q k v (p.1.emb y))
    ∧ (∀ y : S8192x128.Idx, (y 0).val / 256 = 8 + 2 * n.val ∨ (y 0).val / 256 = 9 + 2 * n.val → ∃ p ∈ T.1, y ∈ p.1.set)
    ∧ Scores q k (10 + 2 * n.val) (512 * n.val + 512) (arg6.view.read (Elt Ideal) (arg6.view.writes (Elt Ideal) f6 T.2.1)) := by
  have s9 : Scores q k (9 + 2 * n.val) (512 * n.val + 256) (trip_k0_t1.sl.v330 arg1 arg2 arg5 arg7 X1 X2 X5 n) := by
    unfold trip_k0_t1.sl.v330 trip_k0_t1.sl.HW_arg7_1
    rw [View.readCov_cons_toLoadRect]
    exact score_odd (rows_read hX1 (off1_one n)) (rows_read hX2 (off2_one n)) (strip_read hX5 rfl (by omega) rfl)
  have s10 : Scores q k (10 + 2 * n.val) (512 * n.val + 512) (trip_k0_t1.sl.v323 arg1 arg2 arg5 X1 X2 X5 n) :=
    score_even (rows_read hX1 (off1_two n)) (rows_read hX2 (off2_two n)) (strip_read hX5 rfl (by omega) rfl)
  have t8 : Tile q k v (8 + 2 * n.val) (trip_k0_t1.sl.v303 arg3 arg6 X3 n f6) := by
    refine tile_even (lo := 512 * n.val) (by omega) (by omega) (s := View.readAt (Elt Ideal) arg6.view
      (Rect.unit (s := S256x2304) ![0, 0] S256x2304.size inb_S256x2304_S256x2304_0_0).toLoadRect f6) ?_ (rows_read hX3 (off3_eq n))
    have := h6
    rw [← whole_ld (View.read (Elt Ideal) arg6.view f6) inb_S256x2304_S256x2304_0_0] at this
    exact this
  have t9 : Tile q k v (9 + 2 * n.val) (k0_pay40 (F := Ideal) (trip_k0_t1.sl.v334 arg1 arg2 arg5 arg7 X1 X2 X5 n)
      (View.readAt (Elt Ideal) arg3.view (Rect.unit (s := S1x8192x128) (k0_off2 n 1#32) S1x2304x128.size (k0_off2_inb n 0)).toLoadRect X3)) :=
    tile_odd (lo := 512 * n.val + 256) (by omega) (by omega) s9 (rows_read hX3 (off2_one n))
  intro T
  have hT : T = tripL_k0_t1 (F := Ideal) 𝒱 c bd i arg1 harg1 arg2 harg2 arg3 harg3 arg4 harg4 arg5 harg5 arg6 harg6 arg7 harg7 v219 X1 X2 X3 X5 n f4 f6 f7 := rfl
  clear_value T
  unfold tripL_k0_t1 trip_k0_t1 at hT
  dsimp only at hT
  subst hT
  refine ⟨?_, ?_, ?_⟩
  · intro p hp
    rcases List.mem_cons.mp hp with rfl | hp
    · exact piece_ok t9 (off5_eq n) (k0_off5_inb n)
    · obtain rfl := List.mem_singleton.mp hp
      exact piece_ok t8 (off4_eq n) (k0_off4_inb n)
  · rintro y (h | h)
    · exact ⟨_, List.mem_cons_of_mem _ List.mem_cons_self, piece_covers (off4_eq n) (k0_off4_inb n) y h⟩
    · exact ⟨_, List.mem_cons_self, piece_covers (off5_eq n) (k0_off5_inb n) y h⟩
  · exact (read_whole arg6 f6 _ _ _).symm ▸ s10

/-- All the trips before trip `n`: the rows of the tiles finished so far, and the scores the next trip starts from. -/
theorem trips_spec (hX1 : arg1.view.read (Elt Ideal) X1 = q) (hX2 : arg2.view.read (Elt Ideal) X2 = k) (hX3 : arg3.view.read (Elt Ideal) X3 = v)
    (hX5 : arg5.view.read (Elt Ideal) X5 = biasBlock) (G4 : BufTy.Contents (Elt Ideal) arg4.view.ty)
    (G6 : BufTy.Contents (Elt Ideal) arg6.view.ty) (G7 : BufTy.Contents (Elt Ideal) arg7.view.ty)
    (h6 : Scores q k 8 0 (arg6.view.read (Elt Ideal) G6)) (n : ℕ) (hn : n ≤ 11) :
    let T := pb_k0_t1 (F := Ideal) 𝒱 c bd i arg1 harg1 arg2 harg2 arg3 harg3 arg4 harg4 arg5 harg5 arg6 harg6 arg7 harg7 v219 X1 X2 X3 X5 G4 G6 G7 n
    (∀ p ∈ T.1, ∀ y, p.2 y = out q k v (p.1.emb y))
    ∧ (∀ y : S8192x128.Idx, 8 ≤ (y 0).val / 256 → (y 0).val / 256 < 8 + 2 * n → ∃ p ∈ T.1, y ∈ p.1.set)
    ∧ Scores q k (8 + 2 * n) (512 * n) (arg6.view.read (Elt Ideal) (arg6.view.writes (Elt Ideal) G6 T.2.1)) := by
  induction n with
  | zero => exact ⟨fun p hp => absurd hp List.not_mem_nil, fun y h h' => absurd h' (by omega), h6⟩
  | succ n ih =>
    obtain ⟨i1, i2, i3⟩ := ih (by omega)
    have hlt : n < k0_t1_loop.trips := by rw [trips_eq]; omega
    obtain ⟨s1, s2, s3⟩ := trip_spec 𝒱 c bd i arg1 harg1 arg2 harg2 arg3 harg3 arg4 harg4 arg5 harg5 arg6 harg6 arg7 harg7 v219 X1 X2 X3 X5
      hX1 hX2 hX3 hX5 ⟨n, hlt⟩ _ _ (arg7.view.writes (Elt Ideal) G7 (pb_k0_t1 (F := Ideal) 𝒱 c bd i arg1 harg1 arg2 harg2 arg3 harg3 arg4 harg4 arg5 harg5 arg6 harg6 arg7 harg7 v219 X1 X2 X3 X5 G4 G6 G7 n).2.2) i3
    have hs := pb_k0_t1_succ (F := Ideal) 𝒱 c bd i arg1 harg1 arg2 harg2 arg3 harg3 arg4 harg4 arg5 harg5 arg6 harg6 arg7 harg7 v219 X1 X2 X3 X5 G4 G6 G7 ⟨n, hlt⟩
    intro T
    have hT : T = _ := hs
    clear_value T
    subst hT
    refine ⟨?_, ?_, ?_⟩
    · intro p hp
      rcases List.mem_append.mp hp with hp | hp
      · exact s1 p hp
      · exact i1 p hp
    · intro y h h'
      by_cases hlt' : (y 0).val / 256 < 8 + 2 * n
      · obtain ⟨p, hp, hy⟩ := i2 y h hlt'
        exact ⟨p, List.mem_append_right _ hp, hy⟩
      · obtain ⟨p, hp, hy⟩ := s2 y (by show _ = 8 + 2 * n ∨ _ = 9 + 2 * n; omega)
        exact ⟨p, List.mem_append_left _ hp, hy⟩
    · have e1 : 8 + 2 * (n + 1) = 10 + 2 * n := by omega
      have e2 : 512 * (n + 1) = 512 * n + 512 := by omega
      rw [e1, e2]
      have s3' := s3
      rw [← View.writes_append] at s3'
      exact s3'

end Dil

end
-- ==== Proof.DilRun.lean ====
module

public import proofs.«01_k».proof.Proof.Gen.KernelIdeal.Frame.Runs
public import proofs.«01_k».proof.Proof.DilTrip

@[expose] public section

/-!
# The body of the dilated attention, run once

The body is run on arbitrary contents of the three input heads.  Whatever the scratch memory held, it
leaves the attention of the head in the output and the table of biases in its scratch table: the first
grid point fills that table, the later ones find it there.
-/

set_option maxRecDepth 16384

noncomputable section

namespace Dil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The pieces written, read back: the early tiles, the tiles of the loop, the last two. -/
theorem assemble {q k v : S1x8192x128.Idx → EReal} (arg4 : Memref sig .tc .vmem S8192x128 .bf16) (f : BufTy.Contents (Elt Ideal) arg4.view.ty)
    {T : List (View.Piece (Elt Ideal) S8192x128 .bf16)} {n : ℕ} {C : Prop}
    (hT : (∀ p ∈ T, ∀ y, p.2 y = out q k v (p.1.emb y))
      ∧ (∀ y : S8192x128.Idx, 8 ≤ (y 0).val / 256 → (y 0).val / 256 < 8 + 2 * n → ∃ p ∈ T, y ∈ p.1.set) ∧ C) (hn : n = 11)
    {u0 : S256x128.Idx → EReal} (h0 : Tile q k v 0 u0)
    {u1 : S256x128.Idx → EReal} (h1 : Tile q k v 1 u1)
    {u2 : S256x128.Idx → EReal} (h2 : Tile q k v 2 u2)
    {u3 : S256x128.Idx → EReal} (h3 : Tile q k v 3 u3)
    {u4 : S256x128.Idx → EReal} (h4 : Tile q k v 4 u4)
    {u5 : S256x128.Idx → EReal} (h5 : Tile q k v 5 u5)
    {u6 : S256x128.Idx → EReal} (h6 : Tile q k v 6 u6)
    {u7 : S256x128.Idx → EReal} (h7 : Tile q k v 7 u7)
    {u30 : S256x128.Idx → EReal} (h30 : Tile q k v 30 u30)
    {u31 : S256x128.Idx → EReal} (h31 : Tile q k v 31 u31) :
    arg4.view.read (Elt Ideal) (arg4.view.writes (Elt Ideal) f
      ([⟨Rect.unit (s := S8192x128) ![7936, 0] S256x128.size inb_S8192x128_S256x128_7936_0, u31⟩,
        ⟨Rect.unit (s := S8192x128) ![7680, 0] S256x128.size inb_S8192x128_S256x128_7680_0, u30⟩] ++
      (T ++ [⟨Rect.unit (s := S8192x128) ![1792, 0] S256x128.size inb_S8192x128_S256x128_1792_0, u7⟩,
        ⟨Rect.unit (s := S8192x128) ![1536, 0] S256x128.size inb_S8192x128_S256x128_1536_0, u6⟩,
        ⟨Rect.unit (s := S8192x128) ![1280, 0] S256x128.size inb_S8192x128_S256x128_1280_0, u5⟩,
        ⟨Rect.unit (s := S8192x128) ![1024, 0] S256x128.size inb_S8192x128_S256x128_1024_0, u4⟩,
        ⟨Rect.unit (s := S8192x128) ![768, 0] S256x128.size inb_S8192x128_S256x128_768_0, u3⟩,
        ⟨Rect.unit (s := S8192x128) ![512, 0] S256x128.size inb_S8192x128_S256x128_512_0, u2⟩,
        ⟨Rect.unit (s := S8192x128) ![256, 0] S256x128.size inb_S8192x128_S256x128_256_0, u1⟩,
        ⟨Rect.unit (s := S8192x128) ![0, 0] S256x128.size inb_S8192x128_S256x128_0_0, u0⟩]))) = out q k v := by
  subst hn
  obtain ⟨hT1, hT2, -⟩ := hT
  funext y
  refine View.read_writes_apply_of_pieces arg4.view f (out q k v) _ ?_ y ?_
  · simp only [List.forall_mem_append, List.forall_mem_cons]
    exact ⟨⟨piece_ok h31 rfl _, piece_ok h30 rfl _, fun _ h => absurd h List.not_mem_nil⟩, hT1, piece_ok h7 rfl _, piece_ok h6 rfl _, piece_ok h5 rfl _,
      piece_ok h4 rfl _, piece_ok h3 rfl _, piece_ok h2 rfl _, piece_ok h1 rfl _, piece_ok h0 rfl _, fun _ h => absurd h List.not_mem_nil⟩
  · have hy : (y 0).val < 8192 := (y 0).isLt
    obtain ⟨t, ht⟩ : ∃ t, (y 0).val / 256 = t := ⟨_, rfl⟩
    have hmem : ∀ (o : ℕ) (inb : ∀ a, (![o, 0] : Fin 2 → ℕ) a + S256x128.size a ≤ S8192x128.size a) ,
        o = 256 * t → y ∈ (Rect.unit (s := S8192x128) ![o, 0] S256x128.size inb).set :=
      fun o inb ho => piece_covers (by rw [ho]) inb y ht
    by_cases hl : 8 ≤ t ∧ t < 30
    · obtain ⟨p, hp, hy'⟩ := hT2 y (ht ▸ hl.1) (by omega)
      exact ⟨p, List.mem_append_right _ (List.mem_append_left _ hp), hy'⟩
    · have : t ≤ 31 := by omega
      simp only [List.mem_append, List.mem_cons, or_and_right, exists_or, exists_eq_left]
      have : t ≤ 7 ∨ t = 30 ∨ t = 31 := by omega
      rcases this with h | rfl | rfl
      · refine Or.inr (Or.inr ?_)
        interval_cases t
        · exact Or.inr (Or.inr (Or.inr (Or.inr (Or.inr (Or.inr (Or.inr (Or.inl (hmem _ _ rfl))))))))
        · exact Or.inr (Or.inr (Or.inr (Or.inr (Or.inr (Or.inr (Or.inl (hmem _ _ rfl)))))))
        · exact Or.inr (Or.inr (Or.inr (Or.inr (Or.inr (Or.inl (hmem _ _ rfl))))))
        · exact Or.inr (Or.inr (Or.inr (Or.inr (Or.inl (hmem _ _ rfl)))))
        · exact Or.inr (Or.inr (Or.inr (Or.inl (hmem _ _ rfl))))
        · exact Or.inr (Or.inr (Or.inl (hmem _ _ rfl)))
        · exact Or.inr (Or.inl (hmem _ _ rfl))
        · exact Or.inl (hmem _ _ rfl)
      · exact Or.inl (Or.inr (Or.inl (hmem _ _ rfl)))
      · exact Or.inl (Or.inl (hmem _ _ rfl))

set_option maxHeartbeats 2000000 in
/-- The body at any grid point, on any contents of the heads. -/
theorem run_body (c : Dev nD) (i : grid0.Coords) (arg1 : Memref sig .tc .vmem S1x8192x128 .bf16) (harg1 : arg1.IsWhole) (arg2 : Memref sig .tc .vmem S1x8192x128 .bf16) (harg2 : arg2.IsWhole) (arg3 : Memref sig .tc .vmem S1x8192x128 .bf16) (harg3 : arg3.IsWhole) (arg4 : Memref sig .tc .vmem S8192x128 .bf16) (harg4 : arg4.IsWhole) (arg5 : Memref sig .tc .vmem S256x2304 .f32) (harg5 : arg5.IsWhole) (arg6 : Memref sig .tc .vmem S256x2304 .f32) (harg6 : arg6.IsWhole) (arg7 : Memref sig .tc .vmem S256x2304 .f32) (harg7 : arg7.IsWhole)
    (x0 : Vec Ideal S1x8192x128 .bf16) (x1 : Vec Ideal S1x8192x128 .bf16) (x2 : Vec Ideal S1x8192x128 .bf16) (xs : Vec Ideal S256x2304 .f32) (hxs : ¬cond0_0 i → xs = biasBlock) :
    ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (out x0 x1 x2) ∗ owns (c : Thread nD τ) arg5 fullShare biasBlock ∗ (∃ d, owns (c : Thread nD τ) arg6 fullShare d) ∗ (∃ d, owns (c : Thread nD τ) arg7 fullShare d)) -∗ K ⟨⟩))
          ⊢ wp frame (wpE (defs₀ (F := Ideal)) Variants.none c none) E (cc0_dilated_attn i arg1 harg1 arg2 harg2 arg3 harg3 arg4 harg4 arg5 harg5 arg6 harg6 arg7 harg7) K := by
  intro E K
  by_cases hc0 : cond0_0 i
  all_goals
    simp only [cc0_dilated_attn_eq_skeleton]; unfold cc0_dilated_attn_skel
    simp only [k0_part4_eq_skeleton, k0_part1_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%fs0, %hs0, HS0⟩, ⟨%ds1, %fs1, -, HS1⟩, ⟨%ds2, %fs2, -, HS2⟩, Hk⟩
    obtain rfl := harg5.eq_unread hs0; obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      clear hf0 hf1 hf2 K
      have hq := harg1.read_unread (Val := Elt Ideal) x0
      have hk := harg2.read_unread (Val := Elt Ideal) x1
      have hv := harg3.read_unread (Val := Elt Ideal) x2
      first
        | have hx := (harg5.read_unread (Val := Elt Ideal) xs).trans (hxs hc0)
          refine assemble arg4 _ (trips_spec Variants.none c none i arg1 harg1 arg2 harg2 arg3 harg3 arg4 harg4 arg5 harg5 arg6 harg6 arg7 harg7 _ _ _ _ _
            hq hk hv hx _ _ _ ?s8 _ (by decide)) (by decide) ?t0 ?t1 ?t2 ?t3 ?t4 ?t5 ?t6 ?t7 ?t30 ?t31
        | have hx := read_whole arg5 arg5.view.junk inb_S256x2304_S256x2304_0_0 biasBlock []
          refine assemble arg4 _ (trips_spec Variants.none c none i arg1 harg1 arg2 harg2 arg3 harg3 arg4 harg4 arg5 harg5 arg6 harg6 arg7 harg7 _ _ _ _ _
            hq hk hv hx _ _ _ ?s8 _ (by decide)) (by decide) ?t0 ?t1 ?t2 ?t3 ?t4 ?t5 ?t6 ?t7 ?t30 ?t31
      case s8 => exact scores_written arg6 _ _ _ (score8 (rows_read hq rfl) (rows_read hk rfl) (strip_read hx (t := 8) (lo := 0) (w := 2304) (o := 0) rfl rfl rfl))
      case t0 => exact tile0 (scores_stored arg6 _ _ (score0 (rows_read hq rfl) (rows_read hk rfl) (strip_read hx (t := 0) (lo := 0) (w := 256) (o := 2048) rfl rfl rfl))) (rows_read hv rfl)
      case t1 => exact tile1 (scores_stored arg7 _ _ (score1 (rows_read hq rfl) (rows_read hk rfl) (strip_read hx (t := 1) (lo := 0) (w := 512) (o := 1792) rfl rfl rfl))) (rows_read hv rfl)
      case t2 => exact tile2 (scores_stored arg6 _ _ (score2 (rows_read hq rfl) (rows_read hk rfl) (strip_read hx (t := 2) (lo := 0) (w := 768) (o := 1536) rfl rfl rfl))) (rows_read hv rfl)
      case t3 => exact tile3 (scores_stored arg7 _ _ (score3 (rows_read hq rfl) (rows_read hk rfl) (strip_read hx (t := 3) (lo := 0) (w := 1024) (o := 1280) rfl rfl rfl))) (rows_read hv rfl)
      case t4 => exact tile4 (scores_stored arg6 _ _ (score4 (rows_read hq rfl) (rows_read hk rfl) (strip_read hx (t := 4) (lo := 0) (w := 1280) (o := 1024) rfl rfl rfl))) (rows_read hv rfl)
      case t5 => exact tile5 (scores_stored arg7 _ _ (score5 (rows_read hq rfl) (rows_read hk rfl) (strip_read hx (t := 5) (lo := 0) (w := 1536) (o := 768) rfl rfl rfl))) (rows_read hv rfl)
      case t6 => exact tile6 (scores_stored arg6 _ _ (score6 (rows_read hq rfl) (rows_read hk rfl) (strip_read hx (t := 6) (lo := 0) (w := 1792) (o := 512) rfl rfl rfl))) (rows_read hv rfl)
      case t7 => exact tile7 (scores_stored arg7 _ _ (score7 (rows_read hq rfl) (rows_read hk rfl) (strip_read hx (t := 7) (lo := 0) (w := 2048) (o := 256) rfl rfl rfl))) (rows_read hv rfl)
      case t30 =>
        exact tile30 (lo := 5632) rfl rfl (scores_loaded (t' := 8 + 2 * Scf.trips k0_t1_loop.lb k0_t1_loop.ub k0_t1_loop.st) (lo' := 512 * Scf.trips k0_t1_loop.lb k0_t1_loop.ub k0_t1_loop.st) arg6 _ _ _ (by decide) (by decide) (trips_spec Variants.none c none i arg1 harg1 arg2 harg2 arg3 harg3 arg4 harg4 arg5 harg5 arg6 harg6 arg7 harg7 _ _ _ _ _
          hq hk hv hx _ _ _ (scores_written arg6 _ _ _ (score8 (rows_read hq rfl) (rows_read hk rfl) (strip_read hx (t := 8) (lo := 0) (w := 2304) (o := 0) rfl rfl rfl)))
          (Scf.trips k0_t1_loop.lb k0_t1_loop.ub k0_t1_loop.st) (by decide)).2.2) (rows_read hv rfl)
      case t31 => exact tile31 (lo := 5888) rfl rfl (scores_stored arg7 _ _ (score31 (rows_read hq rfl) (rows_read hk rfl) (strip_read hx (t := 31) (lo := 5888) (w := 2304) (o := 0) rfl rfl rfl))) (rows_read hv rfl)
    isplitl [HS0]
    · iexists _; isplitr; swap; · iexact HS0
      ipureintro
      first
        | exact read_whole arg5 _ _ _ _
        | exact (harg5.read_unread (Val := Elt Ideal) xs).trans (hxs hc0)
    isplitl [HS1]
    · iexists _, _; isplitr; swap; · iexact HS1
      ipureintro; rfl
    iexists _, _; isplitr; swap; · iexact HS2
    ipureintro; rfl

end Dil

end
-- ==== Proof.DilFrame.lean ====
module

public import proofs.«01_k».proof.Proof.DilRun
public import Idealize.ShloMosaic.Lib.Claim
public import Idealize.ShloMosaic.Lib.Pipeline.Value

@[expose] public section

/-!
# The dilated attention, launched

The grid has one point per head.  After every point the output block holds the attention of the point's
head and the scratch table the biases, so the result array is the attention of every head.
-/

set_option maxRecDepth 16384

noncomputable section

namespace Dil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Before position `n`: the table at the biases once a point has run, the rest of the scratch at anything. -/
def PhiS (c : Dev nD) : ℕ → sProp 𝕄
  | 0 => Pipeline.ΦA spec0 c
  | _ + 1 => iprop(iprop(owns (c : Thread nD τ) scM0_0 fullShare biasBlock ∗ (∃ d, owns (c : Thread nD τ) scM0_1 fullShare d) ∗ (∃ d, owns (c : Thread nD τ) scM0_2 fullShare d)) ∗ (∃ r, prngReg c r))

/-- After the body at `t`: the inputs at their blocks, the output at the attention of those blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t)
  Φ t := PhiS c t.val
  q w := Pipeline.shareOf spec0 w
  owed _ := 0

/-- The arrays the windows read and write are the launched ones. -/
theorem A_eq (c : Dev nD) (w : Fin cfg0.W) : (dats m 0 c).A w = V m c (Pipeline.arrRef spec0 w) := by
  dsimp only [dats]

/-- The state between the points, by its position. -/
theorem Phi_at (c : Dev nD) (t : Fin (cfg0.N + 1)) : (dats m 0 c).Φ t = PhiS c t.val := by
  dsimp only [dats]

/-- What the first window holds after a point. -/
theorem after0_0 (c : Dev nD) (t : Fin cfg0.N) : (dats m 0 c).after 0 t = iblk m c 0 t := by dsimp only [dats]
/-- What the second window holds after a point. -/
theorem after0_1 (c : Dev nD) (t : Fin cfg0.N) : (dats m 0 c).after 1 t = iblk m c 1 t := by dsimp only [dats]
/-- What the third window holds after a point. -/
theorem after0_2 (c : Dev nD) (t : Fin cfg0.N) : (dats m 0 c).after 2 t = iblk m c 2 t := by dsimp only [dats]
/-- What the fourth window holds after a point. -/
theorem after0_3 (c : Dev nD) (t : Fin cfg0.N) :
    (dats m 0 c).after 3 t = out (iblk m c 0 t) (iblk m c 1 t) (iblk m c 2 t) := by dsimp only [dats]

/-- What the first window holds before a point. -/
theorem before0_0 (c : Dev nD) (t : Fin cfg0.N) (d) : (dats m 0 c).before 0 t d = iblk m c 0 t :=
  before0_0_of m (dats m 0 c) (A_eq m c 0) (after0_0 m c) t d
/-- What the second window holds before a point. -/
theorem before0_1 (c : Dev nD) (t : Fin cfg0.N) (d) : (dats m 0 c).before 1 t d = iblk m c 1 t :=
  before0_1_of m (dats m 0 c) (A_eq m c 1) (after0_1 m c) t d
/-- What the third window holds before a point. -/
theorem before0_2 (c : Dev nD) (t : Fin cfg0.N) (d) : (dats m 0 c).before 2 t d = iblk m c 2 t :=
  before0_2_of m (dats m 0 c) (A_eq m c 2) (after0_2 m c) t d

/-- What the body at point `t` is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- Before any point the table holds something, and from the second point on the biases. -/
theorem Phi_in (c : Dev nD) (t : Fin cfg0.N) :
    PhiS c t.val ⊢ iprop((∃ xs, ⌜¬cond0_0 (grid0.coords t) → xs = biasBlock⌝ ∗ owns (c : Thread nD τ) scM0_0 fullShare xs)
      ∗ (∃ d, owns (c : Thread nD τ) scM0_1 fullShare d) ∗ (∃ d, owns (c : Thread nD τ) scM0_2 fullShare d) ∗ (∃ r, prngReg c r)) := by
  rcases Nat.eq_zero_or_pos t.val with h | h
  · rw [h, show PhiS c 0 = Pipeline.ΦA spec0 c from rfl, PhiA0_eq]
    iintro ⟨⟨⟨%xs, HS0⟩, HS1, HS2⟩, Hg⟩
    isplitl [HS0]
    · iexists xs
      isplitr
      · ipureintro; exact fun hc => absurd ((hcond0_0 t).mpr (by rw [h])) hc
      iexact HS0
    isplitl [HS1]; · iexact HS1
    isplitl [HS2]; · iexact HS2
    iexact Hg
  · obtain ⟨n, hn⟩ := Nat.exists_eq_succ_of_ne_zero h.ne'
    rw [hn, PhiS]
    iintro ⟨⟨HS0, HS1, HS2⟩, Hg⟩
    isplitl [HS0]
    · iexists biasBlock
      isplitr
      · ipureintro; exact fun _ => rfl
      iexact HS0
    isplitl [HS1]; · iexact HS1
    isplitl [HS2]; · iexact HS2
    iexact Hg

set_option maxHeartbeats 2000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS c (t.val + 1) from rfl, PhiS, show (dats m 0 c).Φ t.castSucc = PhiS c t.val from rfl]
  iintro ⟨HP, Ho, ⟨%d0, H0⟩, ⟨%d1, H1⟩, ⟨%d2, H2⟩, ⟨%d3, H3⟩⟩
  ihave HP' := (Phi_in c t) $$ HP
  icases HP' with ⟨⟨%xs, %hxs, HS0⟩, HS1, HS2, Hg⟩
  iapply (run_body c (grid0.coords t) _ _ _ _ _ _ _ _ _ _ _ _ _ _ (iblk m c 0 t) (iblk m c 1 t) (iblk m c 2 t) xs hxs Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- The body that is run at a point. -/
theorem defs₀_row (t : Fin cfg0.N) :
    defs₀ (F := Ideal) .tc cfg0.body (cfg0.bodyArgs t (cfg0.slots t)) = bodyAt0 t := by
  unfold defs₀; rw [Defs.onTc_tc]

/-- The body keeps its contract at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The buffers as launched are the state before the first point. -/
theorem hin (c : Dev nD) : Pipeline.ΦA spec0 c ⊢ (dats m 0 c).Φ 0 := by
  rw [show (dats m 0 c).Φ 0 = Pipeline.ΦA spec0 c from rfl]

/-- The state after the last point gives the buffers back. -/
theorem hout (c : Dev nD) : (dats m 0 c).Φ (Fin.last cfg0.N) ⊢ Pipeline.ΦA spec0 c := by
  rw [Phi_at, show (Fin.last cfg0.N).val = 5 + 1 from N_0, PhiS, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

set_option backward.isDefEq.respectTransparency.types false in
/-- The launch, with every semaphore counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends with the arrays as the points leave them. -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: every run ends, the argument as launched. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

/-- The run with its result named. -/
theorem run_blocks : θ_run defs (onTc (τ := τ) (main (F := Ideal))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0) :=
  (θ_run defs _ _).mono (fun r h c => ⟨(h c).1 3,
      ((h c).1 2).trans (((dats m 0 c).arrAt_in 2 rfl _).trans ((A_eq m c 2).trans (V_main_arg0 m c)))⟩)
    (run_main m ρ)

end Dil

end
-- ==== Proof.DilValue.lean ====
module

public import proofs.«01_k».proof.Proof.DilFrame

@[expose] public section

/-!
# What the dilated attention's result array holds

Point `h` of the grid writes the columns `128·h` to `128·h + 127`, from the heads `h`, `6 + h` and
`12 + h`, so the array is the attention of the six heads side by side.
-/

set_option maxRecDepth 16384

noncomputable section

namespace Dil

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The heads, as the kernel is given them. -/
def heads : S40x8192x128.Idx → EReal := V m c main_arg0

/-- Head number `n`. -/
def headOf (n : ℕ) (hn : n < 40) : S1x8192x128.Idx → EReal := fun y => heads m c (ix3 ⟨n, hn⟩ (y 1) (y 2))

/-- There are six points, one for each head. -/
theorem point_lt (t : Fin cfg0.N) : t.val < 6 := t.isLt

/-- Which blocks the windows are at, at each point. -/
theorem idx : ∀ t : Fin cfg0.N, win0_0.index t = ![t.val, 0, 0] ∧ win0_1.index t = ![6 + t.val, 0, 0] ∧
    win0_2.index t = ![12 + t.val, 0, 0] ∧ win0_3.index t = ![0, t.val] ∧ t.val < 6 :=
  (by decide +kernel : ∀ t : Fin grid0.N, _)

/-- The queries that a point reads. -/
theorem blk_q (t : Fin cfg0.N) (z : Fin 1) (r : Fin 8192) (d : Fin 128) :
    (iblk m c 0 t : Vec Ideal S1x8192x128 .bf16) (ix3 z r d) = headOf m c t.val (by have := point_lt t; omega) (ix3 z r d) := by
  blk_ext [iblk, V, idx t, headOf, heads]

/-- The keys that a point reads. -/
theorem blk_k (t : Fin cfg0.N) (z : Fin 1) (r : Fin 8192) (d : Fin 128) :
    (iblk m c 1 t : Vec Ideal S1x8192x128 .bf16) (ix3 z r d) = headOf m c (6 + t.val) (by have := point_lt t; omega) (ix3 z r d) := by
  blk_ext [iblk, V, idx t, headOf, heads]

/-- The values that a point reads. -/
theorem blk_v (t : Fin cfg0.N) (z : Fin 1) (r : Fin 8192) (d : Fin 128) :
    (iblk m c 2 t : Vec Ideal S1x8192x128 .bf16) (ix3 z r d) = headOf m c (12 + t.val) (by have := point_lt t; omega) (ix3 z r d) := by
  blk_ext [iblk, V, idx t, headOf, heads]

/-- The attention at row `r` and column `x`: the column belongs to head `x / 128`. -/
def side (r : ℕ) (x : ℕ) (h : x < 768) : EReal :=
  attn (headOf m c (x / 128) (by omega)) (headOf m c (6 + x / 128) (by omega)) (headOf m c (12 + x / 128) (by omega)) r ⟨x % 128, Nat.mod_lt _ (by decide)⟩

/-- The result array at head `n`, channel `d`. -/
theorem side_at (r n : ℕ) (hn : n < 6) (d : Fin 128) (h : 128 * n + d.val < 768) :
    side m c r (128 * n + d.val) h = attn (headOf m c n (by omega)) (headOf m c (6 + n) (by omega)) (headOf m c (12 + n) (by omega)) r d := by
  have e1 : (128 * n + d.val) / 128 = n := by omega
  have e2 : (128 * n + d.val) % 128 = d.val := by omega
  have key : ∀ (g : ℕ) (hg : g < 6) (x : Fin 128), g = n → x = d →
      attn (headOf m c g (by omega)) (headOf m c (6 + g) (by omega)) (headOf m c (12 + g) (by omega)) r x =
        attn (headOf m c n (by omega)) (headOf m c (6 + n) (by omega)) (headOf m c (12 + n) (by omega)) r d := by
    rintro g hg x rfl rfl; rfl
  exact key _ (by omega) _ e1 (Fin.ext e2)

/-- The result array. -/
def result : FVec Ideal S8192x768 .bf16 := fun j => side m c (j 0).val (j 1).val (j 1).isLt

/-- What one point writes back. -/
theorem point_at (t : Fin cfg0.N) (r : Fin 8192) (d : Fin 128) (h : 128 * t.val + d.val < 768) :
    out (iblk m c 0 t) (iblk m c 1 t) (iblk m c 2 t) (ix2 r d) = side m c r.val (128 * t.val + d.val) h := by
  have ht := point_lt t
  have hq : (iblk m c 0 t : Vec Ideal S1x8192x128 .bf16) = headOf m c t.val (by omega) := by
    funext y; rw [eq_ix3 y]; exact blk_q m c t _ _ _
  have hk : (iblk m c 1 t : Vec Ideal S1x8192x128 .bf16) = headOf m c (6 + t.val) (by omega) := by
    funext y; rw [eq_ix3 y]; exact blk_k m c t _ _ _
  have hv : (iblk m c 2 t : Vec Ideal S1x8192x128 .bf16) = headOf m c (12 + t.val) (by omega) := by
    funext y; rw [eq_ix3 y]; exact blk_v m c t _ _ _
  rw [side_at m c r.val t.val ht d h, out, ← hq, ← hk, ← hv]
  rfl

/-- The result array after the last point. -/
theorem final : (dats m 0 c).arrAt 3 cfg0.N = result m c := by
  refine (dats m 0 c).arrAt_eq_of_covers 3 _ (by decide +kernel) fun t hf y => ?_
  blk_simp
  rw [after0_3]
  have ht := point_lt t
  obtain ⟨r, d, rfl⟩ : ∃ (r : Fin 8192) (d : Fin 128), y = ix2 r d := ⟨y 0, y 1, eq_ix2 y⟩
  have hi : ((cfg0.win 3).blk t).view.emb (ix2 r d) = (ix2 r ⟨128 * t.val + d.val, by omega⟩ : S8192x768.Idx) := by
    blk_ext [idx t]
  rw [hi]
  exact point_at m c t r d _

end Dil
-- ==== Proof.DilEq.lean ====
module

public import proofs.«01_k».proof.Proof.DilBlock

@[expose] public section

/-!
# Why one softmax with a bias is the merge of three

A key that lies in `n` of the windows gets the bias `log₂ n`, so its weight is `n · 2^score`: the sum
of its weights in the three windows.  Merging the windows' averages by the softmax of their
log-sum-exps gives every key the same share.
-/

set_option maxRecDepth 16384

noncomputable section

namespace Dil

open Cert.KernelIdeal Idealize.ShloMosaic

/-- The weight of key `κ` for query row `r` in window `w`, when its score is `x`. -/
def weight (w : Fin 3) (r κ : ℕ) (x : ℝ) : ℝ := one ((![128, 512, 2048] : Fin 3 → ℕ) w) ((![1, 4, 16] : Fin 3 → ℕ) w) r κ * Real.rpow 2 x

/-- An indicator is not negative. -/
theorem one_nonneg (win dil r κ : ℕ) : 0 ≤ one win dil r κ := by unfold one; split_ifs <;> norm_num

/-- A key's weight in one window is not negative. -/
theorem weight_nonneg (w : Fin 3) (r κ : ℕ) (x : ℝ) : 0 ≤ weight w r κ x :=
  mul_nonneg (one_nonneg _ _ _ _) (Real.rpow_pos_of_pos two_pos x).le

/-- A key's weights in the three windows add up to its count times the power of two. -/
theorem weight_sum (r κ : ℕ) (x : ℝ) : ∑ w : Fin 3, weight w r κ x = cnt r κ * Real.rpow 2 x := by
  simp only [Fin.sum_univ_three, weight, cnt, Matrix.cons_val_zero, Matrix.cons_val_one, Matrix.cons_val]
  ring

/-- A row is its own key in every window. -/
theorem hit_self (win dil r : ℕ) : hit win dil r r = true := by simp [hit]

/-- A key that no window holds weighs nothing. -/
theorem cnt_out {r κ : ℕ} (h : κ ∉ keys r) : cnt r κ = 0 := by
  have : ∀ win dil, win ≤ 2048 → one win dil r κ = 0 := by
    intro win dil hw
    have hf : hit win dil r κ = false := by
      simp only [hit, decide_eq_false_iff_not]
      rintro ⟨h1, h2, -⟩
      refine h (Finset.mem_Ico.mpr ?_)
      simp only [hiOf]
      omega
    simp [one, hf]
  simp [cnt, this]

/-- The score of a key, against its weight. -/
theorem scored_key {q k : S1x8192x128.Idx → EReal} {r κ : ℕ} {x : ℝ} (hx : ∑ d, rowAt q r d * rowAt k κ d = (x : EReal)) :
    Scored (fun x => Real.rpow 2 x) (sc q k r κ) (cnt r κ * Real.rpow 2 x) := by
  rcases cnt_cases r κ with h | h
  · exact Or.inl ⟨by simp [sc, bias, h], by simp [h]⟩
  · have hp : 0 < cnt r κ := by linarith
    refine Or.inr ⟨x + Real.log (cnt r κ) * (Real.log 2)⁻¹, ?_, ?_⟩
    · rw [sc, hx, bias, if_pos hp, EReal.coe_add]
    · have hl : Real.log 2 ≠ 0 := (Real.log_pos one_lt_two).ne'
      show cnt r κ * (2 : ℝ) ^ x = (2 : ℝ) ^ (x + _)
      rw [Real.rpow_add two_pos, mul_comm, Real.rpow_def_of_pos two_pos (_ * _)]
      congr 1
      rw [mul_comm (Real.log (cnt r κ)), mul_inv_cancel_left₀ hl, Real.exp_log hp]

/-- The kernel's row: every key at its share of all the windows' weights. -/
theorem attn_eq (q k v : S1x8192x128.Idx → EReal) (r : ℕ) (hr : r < 8192) (x : ℕ → ℝ)
    (hx : ∀ κ < 8192, ∑ d, rowAt q r d * rowAt k κ d = (x κ : EReal)) (d : Fin 128) :
    attn q k v r d = ∑ κ ∈ Finset.range 8192,
      (((∑ w : Fin 3, weight w r κ (x κ)) / ∑ l ∈ Finset.range 8192, ∑ u : Fin 3, weight u r l (x l) : ℝ) : EReal) * rowAt v κ d := by
  have hsub : keys r ⊆ Finset.range 8192 := by
    intro κ hκ
    have := (Finset.mem_Ico.mp hκ).2
    simp only [hiOf] at this
    exact Finset.mem_range.mpr (by omega)
  have hself : r ∈ keys r := Finset.mem_Ico.mpr (by simp only [hiOf]; omega)
  have hne : sc q k r r ≠ ⊥ := by
    rcases scored_key (hx r hr) with ⟨-, h0⟩ | ⟨y, hy, -⟩
    · have h1 : cnt r r = 3 := by simp [cnt, one, hit_self]; norm_num
      rw [h1] at h0
      have := Real.rpow_pos_of_pos two_pos (x r)
      have h2 : (3 : ℝ) * (2 : ℝ) ^ x r = 0 := h0
      linarith
    · rw [hy]; exact EReal.coe_ne_bot y
  rw [attn, softmax_average isExp_exp2 (keys r) (sc q k r) (fun κ => cnt r κ * Real.rpow 2 (x κ))
    (fun κ hκ => scored_key (hx κ (Finset.mem_range.mp (hsub hκ)))) r hself hne]
  simp only [weight_sum]
  have h0 : ∀ κ ∈ Finset.range 8192, κ ∉ keys r → cnt r κ * Real.rpow 2 (x κ) = 0 := fun κ _ h => by rw [cnt_out h, zero_mul]
  rw [Finset.sum_subset hsub h0]
  refine Finset.sum_subset hsub fun κ hκ h => ?_
  rw [h0 κ hκ h, zero_div, EReal.coe_zero, zero_mul]

/-- Several softmaxes merged by the softmax of their log-sum-exps. -/
theorem merge_eq {n N : ℕ} (g : Fin n → Fin N → EReal) (e : Fin n → Fin N → ℝ) (hg : ∀ w κ, Scored Real.exp (g w κ) (e w κ))
    (i : Fin N) (hne : ∀ w, g w i ≠ ⊥) (v : Fin N → EReal) (L : Fin n → EReal)
    (hL : ∀ w, L w = Finset.univ.sup (g w) + Ideal.log (∑ κ, Ideal.exp (g w κ - Finset.univ.sup (g w)))) :
    ∑ w, Ideal.div (Ideal.exp (L w - Finset.univ.sup L)) (∑ u, Ideal.exp (L u - Finset.univ.sup L)) *
        Ideal.div (∑ κ, v κ * Ideal.exp (g w κ - Finset.univ.sup (g w))) (∑ κ, Ideal.exp (g w κ - Finset.univ.sup (g w))) =
      ∑ κ, (((∑ w, e w κ) / ∑ l, ∑ u, e u l : ℝ) : EReal) * v κ := by
  have hS : ∀ w, 0 < ∑ κ, e w κ := fun w => weights_pos isExp_exp Finset.univ (g w) (e w) (fun κ _ => hg w κ) i (Finset.mem_univ _) (hne w)
  have hlog : ∀ w, L w = ((Real.log (∑ κ, e w κ) : ℝ) : EReal) := fun w =>
    (hL w).trans (log_sum_exp Finset.univ (g w) (e w) (fun κ _ => hg w κ) i (Finset.mem_univ _) (hne w))
  have hsc : ∀ w, Scored Real.exp (L w) (∑ κ, e w κ) := fun w => Or.inr ⟨_, hlog w, (Real.exp_log (hS w)).symm⟩
  have hshare : ∀ w, Ideal.div (Ideal.exp (L w - Finset.univ.sup L)) (∑ u, Ideal.exp (L u - Finset.univ.sup L)) =
      (((∑ κ, e w κ) / ∑ u, ∑ κ, e u κ : ℝ) : EReal) := by
    intro w
    have := softmax_average isExp_exp Finset.univ L (fun w => ∑ κ, e w κ) (fun w _ => hsc w) w (Finset.mem_univ _)
      (by rw [hlog w]; exact EReal.coe_ne_bot _) (fun j => if j = w then 1 else 0)
    simpa using this
  rw [← merged Finset.univ Finset.univ e (fun w κ => (hg w κ).nonneg isExp_exp) (fun w _ => hS w) v]
  refine Finset.sum_congr rfl fun w _ => ?_
  rw [hshare w, ← softmax_average isExp_exp Finset.univ (g w) (e w) (fun κ _ => hg w κ) i (Finset.mem_univ _) (hne w) v]
  simp only [mul_comm (v _)]

/-- A masked score, against its weight. -/
theorem scored_masked (win dil r κ : ℕ) (x : ℝ) :
    Scored Real.exp (Scalar.select (if hit win dil r κ = true then 1#1 else 0#1) ((x : EReal) * ((Real.log 2 : ℝ) : EReal)) ⊥) (one win dil r κ * Real.rpow 2 x) := by
  cases h : hit win dil r κ
  · exact Or.inl ⟨by simp [Scalar.select], by simp [one, h]⟩
  · refine Or.inr ⟨x * Real.log 2, by simp [Scalar.select, EReal.coe_mul], ?_⟩
    rw [one, if_pos h, one_mul, mul_comm]
    exact Real.rpow_def_of_pos two_pos x

end Dil
-- ==== Proof.DilRef.lean ====
module

public import proofs.«01_k».proof.Proof.Gen.ReferenceIdeal.Run
public import Idealize.ShloMosaic.Lib.Pointwise
public import proofs.«01_k».proof.Proof.DilBlock

@[expose] public section

/-!
# What the plain dilated attention computes

The reference's result in stages, each read at an entry: the scores, the mask of each window, the
softmax of each window, and the merge of the three windows by their log-sum-exps.
-/

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ)

/-- The positions minus the positions: how far back every key lies. -/
def dist : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The distances, once for each window. -/
def dists : IVec S3x8192x8192 32 :=
  broadcastInDim S3x8192x8192 ![0, 1, 2] bcast_S1x8192x8192_S3x8192x8192_0_1_2 (broadcastInDim S1x8192x8192 ![1, 2] bcast_S8192x8192_S1x8192x8192_1_2 dist)

/-- Which keys each window keeps. -/
def kept : IVec S3x8192x8192 1 :=
  andi (andi (broadcastInDim S3x8192x8192 ![0, 1, 2] bcast_S1x8192x8192_S3x8192x8192_0_1_2 (broadcastInDim S1x8192x8192 ![1, 2] bcast_S8192x8192_S1x8192x8192_1_2
      (cmpi .sge dist (broadcastInDim S8192x8192 ![] bcast_S_S8192x8192 (constantI S_ 32 0#32)))))
    (cmpi .sle dists (broadcastInDim S3x8192x8192 ![0, 1, 2] bcast_S3x1x1_S3x8192x8192_0_1_2 (broadcastInDim S3x1x1 ![0] bcast_S3_S3x1x1_0 ((fun i => lit0 (S3.rowMajor i)))))))
    (cmpi .eq (Host.remsi dists (broadcastInDim S3x8192x8192 ![0, 1, 2] bcast_S3x1x1_S3x8192x8192_0_1_2 (broadcastInDim S3x1x1 ![0] bcast_S3_S3x1x1_0 ((fun i => lit1 (S3.rowMajor i))))))
      (broadcastInDim S3x8192x8192 ![] bcast_S_S3x8192x8192 (constantI S_ 32 0#32)))

/-- The heads from number `6·n` on. -/
def six (o : Fin 3 → ℕ) (h : S40x8192x128.Slices o S6x8192x128) (x : FVec Ideal S40x8192x128 .bf16) : FVec Ideal S6x8192x128 .f32 :=
  extractStridedSlice S6x8192x128 o (extf .f32 x bitsLt_bf16_f32) h

/-- The scores of every head. -/
def dots (q k : FVec Ideal S6x8192x128 .f32) : FVec Ideal S6x8192x8192 .f32 :=
  mulf (Host.dotGeneral dot_S6x8192x128_S6x8192x128_S6x8192x8192_2_2_1_1_0_0 none q k)
    (broadcastInDim S6x8192x8192 ![] bcast_S_S6x8192x8192 (id (Host.log (constant S_ .f32 0x40000000#32))))

/-- The scores with the keys a window does not keep at minus infinity. -/
def masked (k : IVec S3x8192x8192 1) (s : FVec Ideal S6x8192x8192 .f32) : FVec Ideal S3x6x8192x8192 .f32 :=
  select (broadcastInDim S3x6x8192x8192 ![0, 1, 2, 3] bcast_S3x1x8192x8192_S3x6x8192x8192_0_1_2_3 (broadcastInDim S3x1x8192x8192 ![0, 2, 3] bcast_S3x8192x8192_S3x1x8192x8192_0_2_3 k))
    (broadcastInDim S3x6x8192x8192 ![1, 2, 3] bcast_S6x8192x8192_S3x6x8192x8192_1_2_3 s)
    (broadcastInDim S3x6x8192x8192 ![] bcast_S_S3x6x8192x8192 (id (constant S_ .f32 0xFF800000#32)))

/-- The greatest score of a row. -/
def top (s : FVec Ideal S3x6x8192x8192 .f32) : FVec Ideal S3x6x8192x1 .f32 :=
  broadcastInDim S3x6x8192x1 ![0, 1, 2] bcast_S3x6x8192_S3x6x8192x1_0_1_2 (Host.reduce FloatOps.maximumf s (constant S_ .f32 0xFF800000#32) reducesTo_S3x6x8192x8192_S3x6x8192_d3 h_S_)

/-- The weights before division. -/
def expd (s : FVec Ideal S3x6x8192x8192 .f32) : FVec Ideal S3x6x8192x8192 .f32 :=
  Host.exp (subf s (broadcastInDim S3x6x8192x8192 ![0, 1, 2, 3] bcast_S3x6x8192x1_S3x6x8192x8192_0_1_2_3 (top s)))

/-- The denominators. -/
def den (e : FVec Ideal S3x6x8192x8192 .f32) : FVec Ideal S3x6x8192x1 .f32 :=
  broadcastInDim S3x6x8192x1 ![0, 1, 2] bcast_S3x6x8192_S3x6x8192x1_0_1_2 (Host.reduceAdd e (constant S_ .f32 0x00000000#32) reducesTo_S3x6x8192x8192_S3x6x8192_d3 h_S_)

/-- The values summed with the weights. -/
def total (v : FVec Ideal S6x8192x128 .f32) (e : FVec Ideal S3x6x8192x8192 .f32) : FVec Ideal S6x128x3x8192 .f32 :=
  Host.dotGeneral dot_S6x8192x128_S3x6x8192x8192_S6x128x3x8192_1_3_2_02_0_1 none v e

/-- The average of each window. -/
def avg (v : FVec Ideal S6x8192x128 .f32) (e : FVec Ideal S3x6x8192x8192 .f32) : FVec Ideal S3x6x8192x128 .f32 :=
  Host.divf (transpose S3x6x8192x128 [2, 0, 3, 1] (total v e) transposes_S6x128x3x8192_S3x6x8192x128_2_0_3_1)
    (broadcastInDim S3x6x8192x128 ![0, 1, 2, 3] bcast_S3x6x8192x1_S3x6x8192x128_0_1_2_3 (den e))

/-- The log-sum-exp of each window. -/
def lse (s : FVec Ideal S3x6x8192x8192 .f32) : FVec Ideal S3x6x8192x1 .f32 := addf (top s) (Host.log (den (expd s)))

/-- The exponentials of the log-sum-exps, the greatest taken off. -/
def expw (x : FVec Ideal S3x6x8192x1 .f32) : FVec Ideal S3x6x8192x1 .f32 :=
  Host.exp (subf x (broadcastInDim S3x6x8192x1 ![0, 1, 2, 3] bcast_S1x6x8192x1_S3x6x8192x1_0_1_2_3 (broadcastInDim S1x6x8192x1 ![1, 2, 3] bcast_S6x8192x1_S1x6x8192x1_1_2_3
    (maximumf (broadcastInDim S6x8192x1 ![] bcast_S_S6x8192x1 (constant S_ .f32 0xFF800000#32)) (Host.reduce FloatOps.maximumf x (constant S_ .f32 0xFF800000#32) reducesTo_S3x6x8192x1_S6x8192x1_d0 h_S_)))))

/-- Their softmax over the windows. -/
def share (e : FVec Ideal S3x6x8192x1 .f32) : FVec Ideal S3x6x8192x1 .f32 :=
  Host.divf e (broadcastInDim S3x6x8192x1 ![0, 1, 2, 3] bcast_S1x6x8192x1_S3x6x8192x1_0_1_2_3 (broadcastInDim S1x6x8192x1 ![1, 2, 3] bcast_S6x8192x1_S1x6x8192x1_1_2_3
    (Host.reduceAdd e (constant S_ .f32 0x00000000#32) reducesTo_S3x6x8192x1_S6x8192x1_d0 h_S_)))

/-- The windows merged, the heads side by side. -/
def mergedHeads (w : FVec Ideal S3x6x8192x1 .f32) (o : FVec Ideal S3x6x8192x128 .f32) : FVec Ideal S8192x768 .bf16 :=
  truncf .bf16 (shapeCast _ (transpose S8192x6x128 [1, 0, 2] (Host.reduceAdd (mulf (broadcastInDim S3x6x8192x128 ![0, 1, 2, 3] bcast_S3x6x8192x1_S3x6x8192x128_0_1_2_3 w) o)
    (constant S_ .f32 0x00000000#32) reducesTo_S3x6x8192x128_S6x8192x128_d0 h_S_) transposes_S6x8192x128_S8192x6x128_1_0_2) shapeCasts_S8192x6x128_S8192x768) bitsLt_bf16_f32

/-- The reference's result is the composition of these stages. -/
theorem out_eq (c : Dev nD) :
    res_out0 (F := Ideal) m c =
      (let x := m ((c.tc : Thread nD τ).loc main_arg0)
       let s := masked kept (dots (six ![0, 0, 0] slices_S40x8192x128_S6x8192x128_0_0_0 x) (six ![6, 0, 0] slices_S40x8192x128_S6x8192x128_6_0_0 x))
       mergedHeads (share (expw (lse s))) (avg (six ![12, 0, 0] slices_S40x8192x128_S6x8192x128_12_0_0 x) (expd s))) := rfl

/-- Six heads cut out of all, at an index. -/
theorem six_at (n : ℕ) (hn : n + 6 ≤ 40) (h : S40x8192x128.Slices ![n, 0, 0] S6x8192x128) (x : FVec Ideal S40x8192x128 .bf16) (a : Fin 6) (r : Fin 8192) (d : Fin 128) :
    six ![n, 0, 0] h x (ix3 a r d) = x (ix3 ⟨n + a.val, by omega⟩ r d) := by
  pointwise [six]

/-- A score at an index: the scaled product of a query and a key. -/
theorem dots_at (q k : FVec Ideal S6x8192x128 .f32) (a : Fin 6) (r b : Fin 8192) :
    dots q k (ix3 a r b) = (∑ d : Fin 128, q (ix3 a r d) * k (ix3 a b d)) * Ideal.log (Ideal.ofBits .f32 0x40000000#32) := by
  pointwise [dots]
  rfl

/-- A masked score at an index. -/
theorem masked_at (k : IVec S3x8192x8192 1) (s : FVec Ideal S6x8192x8192 .f32) (w : Fin 3) (a : Fin 6) (r b : Fin 8192) :
    masked k s (ix4 w a r b) = Scalar.select (k (ix3 w r b)) (s (ix3 a r b)) (Ideal.ofBits .f32 0xFF800000#32) := by
  pointwise [masked]
  rfl

/-- The largest score of a row. -/
theorem top_at (s : FVec Ideal S3x6x8192x8192 .f32) (w : Fin 3) (a : Fin 6) (r : Fin 8192) :
    top s (ix4 w a r 0) = Finset.fold max (Ideal.ofBits .f32 0xFF800000#32) (fun b : Fin 8192 => s (ix4 w a r b)) Finset.univ := by
  pointwise [top]

/-- An exponential of a score less the largest. -/
theorem expd_at (s : FVec Ideal S3x6x8192x8192 .f32) (w : Fin 3) (a : Fin 6) (r b : Fin 8192) :
    expd s (ix4 w a r b) = Ideal.exp (s (ix4 w a r b) - top s (ix4 w a r 0)) := by
  pointwise [expd]

/-- The denominator of a row. -/
theorem den_at (e : FVec Ideal S3x6x8192x8192 .f32) (w : Fin 3) (a : Fin 6) (r : Fin 8192) :
    den e (ix4 w a r 0) = ∑ b : Fin 8192, e (ix4 w a r b) := by
  pointwise [den]

/-- The weighted sum of the values. -/
theorem total_at (v : FVec Ideal S6x8192x128 .f32) (e : FVec Ideal S3x6x8192x8192 .f32) (w : Fin 3) (a : Fin 6) (r : Fin 8192) (d : Fin 128) :
    total v e (ix4 a d w r) = ∑ b : Fin 8192, v (ix3 a b d) * e (ix4 w a r b) := by
  pointwise [total]

/-- The weighted mean of the values. -/
theorem avg_at (v : FVec Ideal S6x8192x128 .f32) (e : FVec Ideal S3x6x8192x8192 .f32) (w : Fin 3) (a : Fin 6) (r : Fin 8192) (d : Fin 128) :
    avg v e (ix4 w a r d) = Ideal.div (total v e (ix4 a d w r)) (den e (ix4 w a r 0)) := by
  pointwise [avg]

/-- The logarithm of a row's weight, from its parts. -/
theorem log_at (t d : FVec Ideal S3x6x8192x1 .f32) (w : Fin 3) (a : Fin 6) (r : Fin 8192) :
    (addf t (Host.log d)) (ix4 w a r 0) = t (ix4 w a r 0) + Ideal.log (d (ix4 w a r 0)) := by
  pointwise []

/-- The logarithm of a row's weight, from its scores. -/
theorem lse_at (s : FVec Ideal S3x6x8192x8192 .f32) (w : Fin 3) (a : Fin 6) (r : Fin 8192) :
    lse s (ix4 w a r 0) = top s (ix4 w a r 0) + Ideal.log (den (expd s) (ix4 w a r 0)) := by
  exact log_at _ _ w a r

/-- The exponential of a window's weight less the largest. -/
theorem expw_at (x : FVec Ideal S3x6x8192x1 .f32) (w : Fin 3) (a : Fin 6) (r : Fin 8192) :
    expw x (ix4 w a r 0) = Ideal.exp (x (ix4 w a r 0) - max (Ideal.ofBits .f32 0xFF800000#32)
      (Finset.fold max (Ideal.ofBits .f32 0xFF800000#32) (fun w : Fin 3 => x (ix4 w a r 0)) Finset.univ)) := by
  pointwise [expw]

/-- The share of one window. -/
theorem share_at (e : FVec Ideal S3x6x8192x1 .f32) (w : Fin 3) (a : Fin 6) (r : Fin 8192) :
    share e (ix4 w a r 0) = Ideal.div (e (ix4 w a r 0)) (∑ u : Fin 3, e (ix4 u a r 0)) := by
  pointwise [share]

/-- The merged result, the heads side by side. -/
theorem mergedHeads_at (w : FVec Ideal S3x6x8192x1 .f32) (o : FVec Ideal S3x6x8192x128 .f32) (r : Fin 8192) (a : Fin 6) (d : Fin 128) :
    mergedHeads w o (ix2 r ⟨a.val * 128 + d.val, by omega⟩) = ∑ u : Fin 3, w (ix4 u a r 0) * o (ix4 u a r d) := by
  pointwise [mergedHeads]

/-- The host's test of a key against a window. -/
def test (D W L : BitVec 32) : BitVec 1 :=
  IntOp.andi (IntOp.andi (IntOp.cmpi CmpIPredicate.sge D 0#32) (IntOp.cmpi CmpIPredicate.sle D W))
    (IntOp.cmpi CmpIPredicate.eq (IntOp.remsi .host D L) 0#32)

/-- The reach and the step of each window. -/
def reach : Fin 3 → ℕ := ![128, 512, 2048]
/-- The dilations of the three windows. -/
def step : Fin 3 → ℕ := ![1, 4, 16]

/-- Which keys a window keeps. -/
theorem kept_at (w : Fin 3) (r b : Fin 8192) :
    kept (ix3 w r b) = test (IntOp.subi (BitVec.ofNat 32 r.val) (BitVec.ofNat 32 b.val)) (lit0 w) (lit1 w) := by
  pointwise [kept, dists, dist, test]
  have e : S3.rowMajor (ix1 w) = w := Fin.ext ((by decide : ∀ u : Fin 3, (S3.rowMajor (ix1 u)).val = u.val) w)
  rw [e]

/-- The test at every distance back. -/
theorem test_back : ∀ (w : Fin 3) (x : Fin 128) (y : Fin 64), test (BitVec.ofNat 32 (64 * x.val + y.val)) (lit0 w) (lit1 w) =
    if 64 * x.val + y.val ≤ reach w ∧ (64 * x.val + y.val) % step w = 0 then 1#1 else 0#1 := by decide +kernel

/-- The test fails on every key after the query. -/
theorem test_after : ∀ (w : Fin 3) (x : Fin 128) (y : Fin 64), test (0#32 - BitVec.ofNat 32 (64 * x.val + y.val + 1)) (lit0 w) (lit1 w) = 0#1 := by decide +kernel

/-- A window keeps the keys it should. -/
theorem kept_hit (w : Fin 3) (r b : Fin 8192) :
    kept (ix3 w r b) = if Dil.hit (reach w) (step w) r.val b.val = true then 1#1 else 0#1 := by
  rw [kept_at, IntOp.subi]
  have hr := r.isLt
  have hb := b.isLt
  by_cases h : b.val ≤ r.val
  · have e : BitVec.ofNat 32 r.val - BitVec.ofNat 32 b.val = BitVec.ofNat 32 (64 * ((r.val - b.val) / 64) + (r.val - b.val) % 64) := by
      apply BitVec.eq_of_toNat_eq
      simp only [BitVec.toNat_sub, BitVec.toNat_ofNat]
      omega
    have := test_back w ⟨(r.val - b.val) / 64, by omega⟩ ⟨(r.val - b.val) % 64, by omega⟩
    simp only [Nat.div_add_mod] at e this
    rw [e, this]
    simp [Dil.hit, h]
  · have e : BitVec.ofNat 32 r.val - BitVec.ofNat 32 b.val = 0#32 - BitVec.ofNat 32 (64 * ((b.val - r.val - 1) / 64) + (b.val - r.val - 1) % 64 + 1) := by
      apply BitVec.eq_of_toNat_eq
      simp only [BitVec.toNat_sub, BitVec.toNat_ofNat]
      omega
    have := test_after w ⟨(b.val - r.val - 1) / 64, by omega⟩ ⟨(b.val - r.val - 1) % 64, by omega⟩
    rw [e, this]
    simp [Dil.hit, h]

end Cert.ReferenceIdeal.Own
-- ==== Proof.DilFinite.lean ====
module

public import proofs.«01_k».proof.Defs
public import Idealize.ShloMosaic.Lib.Pointwise
public import Idealize.ShloMosaic.Lib.ReduceAll
public import Idealize.ShloMosaic.Lib.Decide

@[expose] public section

/-!
# What the precondition says

The entries of the first twelve heads, the queries and the keys, are real numbers.
-/

set_option maxRecDepth 16384

noncomputable section

namespace Cert.Pre_finite_qk.Own

open Cert.Pre_finite_qk Idealize.ShloMosaic

/-- The side conditions of the precondition's own program. -/
theorem facts : Cert.Pre_finite_qk.Facts where
  slices_S40x8192x128_S12x8192x128_0_0_0 := by decide
  bitsLt_bf16_f32 := by decide
  bcast_S_S12x8192x128 := by decide
  reducesTo_S12x8192x128_S_d0_1_2 := by decide
  h_S_ := by decide

/-- The literal is plus infinity. -/
theorem inf : Ideal.ofBits .f32 0x7F800000#32 = ⊤ := by simp [Ideal.ofBits, Ideal.ieee]

/-- A value whose absolute value compares below plus infinity is real. -/
theorem real_of_bit (z : EReal) (h : FloatOps.cmpf (F := Ideal) (φ := .f32) .olt (FloatOps.absf (F := Ideal) (φ := .f32) z) (Ideal.ofBits .f32 0x7F800000#32) = 1#1) :
    ∃ a : ℝ, z = a := by
  have h' : BitVec.ofBool (decide (max z (-z) < Ideal.ofBits .f32 0x7F800000#32)) = 1#1 := h
  rw [inf] at h'
  induction z with
  | bot => simp at h'
  | top => simp at h'
  | coe a => exact ⟨a, rfl⟩

/-- Every query and every key entry is real. -/
theorem real_of_pre [Cert.Pre_finite_qk.Facts] (x : FVec Ideal S40x8192x128 .bf16) (h : fn (F := Ideal) x = fun _ => 1#1)
    (n : ℕ) (hn : n < 12) (r : Fin 8192) (d : Fin 128) : ∃ a : ℝ, x (ix3 ⟨n, by omega⟩ r d) = a := by
  have h0 := congrFun h ix0
  dsimp only [fn] at h0
  have h1 := Host.reduce_andi_all _ _ _ _ _ h0 (ix3 ⟨n, hn⟩ r d : S12x8192x128.Idx)
  refine real_of_bit _ ?_
  revert h1
  pointwise []
  exact id

end Cert.Pre_finite_qk.Own
-- ==== Proof.DilClaim.lean ====
module

public import proofs.«01_k».proof.Proof.DilBits
public import proofs.«01_k».proof.Proof.DilValue
public import proofs.«01_k».proof.Proof.DilEq
public import proofs.«01_k».proof.Proof.DilRef
public import proofs.«01_k».proof.Proof.DilFinite
public import Idealize.ShloMosaic.Adequacy
public import Idealize.ShloMosaic.Init

@[expose] public section

/-!
# The claims about the dilated attention

The kernel's array and the plain reference's agree entry by entry when the queries and the keys are
real numbers.
-/

set_option maxRecDepth 16384

noncomputable section

namespace Cert.Proof.Dilated

open Idealize.ShloMosaic Idealize.SL.Sem
open Cert.ReferenceIdeal.Own

/-- The literal is two. -/
theorem two_literal : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h, Ideal.log_coe, if_neg (by norm_num)]

/-- A product of two real rows is real. -/
theorem dot_real (a b : Fin 128 → EReal) (ha : ∀ d, ∃ x : ℝ, a d = x) (hb : ∀ d, ∃ x : ℝ, b d = x) : ∃ x : ℝ, ∑ d, a d * b d = x := by
  choose f hf using ha
  choose g hg using hb
  refine ⟨∑ d, f d * g d, ?_⟩
  rw [← Dil.coe_sum]
  exact Finset.sum_congr rfl fun d _ => by rw [hf, hg, EReal.coe_mul]

/-- The reference's windows: the softmax of each, merged by their log-sum-exps. -/
theorem reference_at (q k v : FVec Ideal Cert.ReferenceIdeal.S6x8192x128 .f32) (a : Fin 6) (r : Fin 8192) (d : Fin 128) (x : Fin 8192 → ℝ)
    (hx : ∀ b, ∑ d : Fin 128, q (ix3 a r d) * k (ix3 a b d) = (x b : EReal)) :
    mergedHeads (share (expw (lse (masked kept (dots q k))))) (avg v (expd (masked kept (dots q k)))) (ix2 r ⟨a.val * 128 + d.val, by omega⟩) =
      ∑ b : Fin 8192, (((∑ w : Fin 3, Dil.weight w r.val b.val (x b)) / ∑ l : Fin 8192, ∑ u : Fin 3, Dil.weight u r.val l.val (x l) : ℝ) : EReal) * v (ix3 a b d) := by
  have hs : ∀ w b, masked kept (dots q k) (ix4 w a r b) =
      Scalar.select (if Dil.hit (reach w) (step w) r.val b.val = true then 1#1 else 0#1) ((x b : EReal) * ((Real.log 2 : ℝ) : EReal)) ⊥ := by
    intro w b
    rw [masked_at, kept_hit, dots_at, hx, two_literal, Dil.minus_inf]
  have hg : ∀ w b, Dil.Scored Real.exp (masked kept (dots q k) (ix4 w a r b)) (Dil.weight w r.val b.val (x b)) := by
    intro w b
    rw [hs]
    exact Dil.scored_masked _ _ _ _ _
  have hne : ∀ w, masked kept (dots q k) (ix4 w a r r) ≠ ⊥ := by
    intro w
    rw [hs, Dil.hit_self, if_pos rfl, ← EReal.coe_mul]
    exact EReal.coe_ne_bot _
  generalize masked kept (dots q k) = s at hg hne ⊢
  have ht : ∀ w, top s (ix4 w a r 0) = Finset.univ.sup (fun b : Fin 8192 => s (ix4 w a r b)) := by
    intro w
    rw [top_at, Dil.minus_inf]
    rfl
  rw [mergedHeads_at]
  have key := Dil.merge_eq (fun w b => s (ix4 w a r b)) (fun w b => Dil.weight w r.val b.val (x b)) hg r hne (fun b => v (ix3 a b d))
    (fun w => lse s (ix4 w a r 0)) (fun w => by rw [lse_at, ht, den_at]; simp only [expd_at, ht])
  refine Eq.trans (Finset.sum_congr rfl fun w _ => ?_) key
  rw [share_at, avg_at, total_at, den_at]
  simp only [expw_at, expd_at, ht, Dil.minus_inf, bot_sup_eq, max_eq_right bot_le]
  rfl

/-- The kernel on compiled floats ends, its arguments unchanged. -/
theorem frame : Cert.quiescent_Kernel := fun m ρ _ => DilBits.frame m ρ

/-- So does the kernel on ideal floats, -/
theorem frame_ideal : Cert.quiescent_KernelIdeal := fun m ρ _ => Dil.frame_ideal m ρ

/-- and the reference. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constants: the reciprocal of `log 2`, and the mask's value as minus infinity. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

variable [Cert.Pre_finite_qk.Facts]

/-- The idealized kernel ends when queries and keys are finite, too, -/
theorem frame_ideal_pre : Cert.quiescent_KernelIdeal_pre_finite_qk := fun m ρ _ => Dil.frame_ideal m ρ

/-- and so does the reference. -/
theorem frame_ref_pre : Cert.quiescent_ReferenceIdeal_pre_finite_qk := fun m ρ _ => frame_ref m ρ trivial

/-- The two arrays agree. -/
theorem entry (m : (ℓ : Loc Cert.KernelIdeal.nD Cert.KernelIdeal.τ Cert.KernelIdeal.sig) → Buf (Elt Ideal) ℓ) (hm : Cert.Pre_KernelIdeal_finite_qk m)
    (c : Dev Cert.KernelIdeal.nD) (m' : (ℓ : Loc Cert.ReferenceIdeal.nD Cert.ReferenceIdeal.τ Cert.ReferenceIdeal.sig) → Buf (Elt Ideal) ℓ)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.res_out0 (F := Ideal) m' c = Dil.result m c := by
  rw [out_eq]
  dsimp only
  rw [e]
  funext j
  obtain ⟨r, y, rfl⟩ : ∃ (r : Fin 8192) (y : Fin 768), j = ix2 r y := ⟨j 0, j 1, eq_ix2 j⟩
  obtain ⟨a, d, rfl⟩ : ∃ (a : Fin 6) (d : Fin 128), y = ⟨a.val * 128 + d.val, by omega⟩ :=
    ⟨⟨y.val / 128, by omega⟩, ⟨y.val % 128, by omega⟩, Fin.ext (by simp only; omega)⟩
  have hreal : ∀ (n : ℕ) (hn : n < 12) (r : Fin 8192) (d : Fin 128), ∃ z : ℝ, Dil.heads m c (ix3 ⟨n, by omega⟩ r d) = z :=
    fun n hn r d => Cert.Pre_finite_qk.Own.real_of_pre _ (hm c) n hn r d
  have ha := a.isLt
  have hdot : ∀ b : Fin 8192, ∃ z : ℝ, ∑ d : Fin 128, Dil.heads m c (ix3 ⟨a.val, by omega⟩ r d) * Dil.heads m c (ix3 ⟨6 + a.val, by omega⟩ b d) = z :=
    fun b => dot_real _ _ (fun d => hreal _ (by omega) r d) (fun d => hreal _ (by omega) b d)
  choose x hx using hdot
  refine (reference_at _ _ _ a r d x fun b => ?_).trans ?_
  · rw [← hx b]
    refine Finset.sum_congr rfl fun d _ => ?_
    rw [six_at 0 (by decide), six_at 6 (by decide)]
    simp only [Nat.zero_add]
    rfl
  · have hside : Dil.result m c (ix2 r ⟨a.val * 128 + d.val, by omega⟩) = Dil.side m c r.val (128 * a.val + d.val) (by omega) := by
      show Dil.side m c r.val (a.val * 128 + d.val) _ = _
      simp only [mul_comm]
    have hrow : ∀ κ < 8192, ∑ d, Dil.rowAt (Dil.headOf m c a.val (by omega)) r.val d * Dil.rowAt (Dil.headOf m c (6 + a.val) (by omega)) κ d =
        ((if h : κ < 8192 then x ⟨κ, h⟩ else 0 : ℝ) : EReal) := by
      intro κ hκ
      rw [dif_pos hκ, ← hx ⟨κ, hκ⟩]
      refine Finset.sum_congr rfl fun d _ => ?_
      rw [Dil.rowAt_lt _ r.isLt, Dil.rowAt_lt _ hκ]
      rfl
    rw [hside, Dil.side_at m c r.val a.val a.isLt d, Dil.attn_eq _ _ _ r.val r.isLt _ hrow d, Finset.sum_range, Finset.sum_range]
    refine Finset.sum_congr rfl fun b _ => ?_
    simp only [b.isLt, Fin.is_lt, dite_true, Fin.eta]
    rw [six_at 12 (by decide), Dil.rowAt_lt _ b.isLt]
    rfl

/-- On the same arguments the kernel and the reference end with the same result. -/
theorem algebraic : Cert.algebraic_KernelIdeal_ReferenceIdeal_pre_finite_qk := by
  pair_intro
  · run_from Dil.run_blocks m g
  · run_from Cert.ReferenceIdeal.Value.run m' g'
    rw [Dil.final m c]
    exact entry m hpre c m' (hagree c)

end Cert.Proof.Dilated

end
-- ==== Proof.OutPoint.lean ====
module

public import proofs.«01_k».proof.Proof.Gen.OutProjIdeal.Value
public import Idealize.ShloMosaic.Lib.Pipeline.ValueKit
public import Idealize.ShloMosaic.Lib.Pointwise
public import Idealize.ShloMosaic.Lib.Pipeline.ReadBack
public import proofs.«01_k».proof.Proof.FfnMath

@[expose] public section

set_option maxRecDepth 16384

noncomputable section

namespace Cert.OutProjIdeal.Own

open Cert.OutProjIdeal Cert.OutProjIdeal.Gen Idealize.ShloMosaic Idealize.ShloMosaic.TcCoe Idealize.SL.Sem

variable (m : (ℓ : Loc nD τ sig) → Buf (Elt Ideal) ℓ)

/-- The first point keeps the weights. -/
theorem first_kept (c : Dev nD) (t : Fin cfg0.N) (h0 : t.val % 16 = 0) :
    (outsAt0 m c t.val t.isLt).2 = k0_pay2 (iblk m c 2 t) := by
  rw [outsAt0_A m c t h0]
  frame_out

/-- One block of the result from the two head groups, the weights, the residual and the affine rows. -/
def blockOut (A : Vec Ideal S512x768 .bf16) (B : Vec Ideal S512x1280 .bf16) (W : Vec Ideal S2048x2048 .bf16)
    (H : Vec Ideal S512x2048 .f32) (G Be : Vec Ideal S1x2048 .f32) (r : Fin 512) (q : Fin 2048) : EReal :=
  Ffn.norm (fun x => Ideal.ofBits .f32 0x3F9837F0#32 * H (ix2 r x) +
    ((∑ k : Fin 768, A (ix2 r k) * W (ix2 ⟨k.val, by omega⟩ x)) +
      ∑ k : Fin 1280, B (ix2 r k) * W (ix2 ⟨768 + k.val, by omega⟩ x))) (G (ix2 0 q)) (Be (ix2 0 q)) q

/-- The first 256 rows of a block, entry by entry. -/
theorem top_at (a : Vec Ideal S256x768 .bf16) (wt : Vec Ideal S768x2048 .bf16) (b : Vec Ideal S256x1280 .bf16)
    (wb : Vec Ideal S1280x2048 .bf16) (h : Vec Ideal S256x2048 .f32) (g be : Vec Ideal S1x2048 .f32)
    (r : Fin 256) (q : Fin 2048) :
    k0_pay4 (F := Ideal) be (k0_pay3 (F := Ideal) a wt b wb h g) (ix2 r q) =
      Ffn.norm (fun x => Ideal.ofBits .f32 0x3F9837F0#32 * h (ix2 r x) +
        ((∑ k : Fin 768, a (ix2 r k) * wt (ix2 k x)) + ∑ k : Fin 1280, b (ix2 r k) * wb (ix2 k x)))
        (g (ix2 0 q)) (be (ix2 0 q)) q := by
  pointwise [k0_pay4, k0_pay3]
  rfl

/-- The last 256 rows go the same way. -/
theorem bottom_at (a : Vec Ideal S256x768 .bf16) (wt : Vec Ideal S768x2048 .bf16) (b : Vec Ideal S256x1280 .bf16)
    (wb : Vec Ideal S1280x2048 .bf16) (h : Vec Ideal S256x2048 .f32) (g be : Vec Ideal S1x2048 .f32)
    (r : Fin 256) (q : Fin 2048) :
    k0_pay1 (F := Ideal) (k0_pay5 (F := Ideal) a wt b wb h g) (k0_pay6 (F := Ideal) be) (ix2 r q) =
      Ffn.norm (fun x => Ideal.ofBits .f32 0x3F9837F0#32 * h (ix2 r x) +
        ((∑ k : Fin 768, a (ix2 r k) * wt (ix2 k x)) + ∑ k : Fin 1280, b (ix2 r k) * wb (ix2 k x)))
        (g (ix2 0 q)) (be (ix2 0 q)) q := by
  pointwise [k0_pay1, k0_pay5, k0_pay6]
  rfl

/-- The kept weights are the weights. -/
theorem kept_at (w : Vec Ideal S2048x2048 .f32) (k x : Fin 2048) :
    k0_pay2 (F := Ideal) w (ix2 k x) = w (ix2 k x) := by
  pointwise [k0_pay2]

/-- At later points the narrowed weights are kept. -/
theorem later_kept (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- The first piece a point stores, read from the loads of its blocks. -/
theorem top_piece (A : Vec Ideal S512x768 .bf16) (B : Vec Ideal S512x1280 .bf16) (W : Vec Ideal S2048x2048 .bf16)
    (H : Vec Ideal S512x2048 .f32) (G Be : Vec Ideal S1x2048 .f32) (r : Fin 256) (q : Fin 2048) :
    k0_pay4 (F := Ideal) Be (k0_pay3 (F := Ideal)
      (View.ld A (Rect.unit ![0, 0] ![256, 768] inb_S512x768_S256x768_0_0))
      (View.ld W (Rect.unit ![0, 0] ![768, 2048] inb_S2048x2048_S768x2048_0_0))
      (View.ld B (Rect.unit ![0, 0] ![256, 1280] inb_S512x1280_S256x1280_0_0))
      (View.ld W (Rect.unit ![768, 0] ![1280, 2048] inb_S2048x2048_S1280x2048_768_0))
      (View.ld H (Rect.unit ![0, 0] ![256, 2048] inb_S512x2048_S256x2048_0_0)) G) (ix2 r q) =
    blockOut A B W H G Be ⟨r.val, by omega⟩ q := by
  rw [top_at]
  unfold blockOut
  pointwise

/-- The second piece a point stores. -/
theorem bottom_piece (A : Vec Ideal S512x768 .bf16) (B : Vec Ideal S512x1280 .bf16) (W : Vec Ideal S2048x2048 .bf16)
    (H : Vec Ideal S512x2048 .f32) (G Be : Vec Ideal S1x2048 .f32) (r : Fin 256) (q : Fin 2048) :
    k0_pay1 (F := Ideal) (k0_pay5 (F := Ideal)
      (View.ld A (Rect.unit ![256, 0] ![256, 768] inb_S512x768_S256x768_256_0))
      (View.ld W (Rect.unit ![0, 0] ![768, 2048] inb_S2048x2048_S768x2048_0_0))
      (View.ld B (Rect.unit ![256, 0] ![256, 1280] inb_S512x1280_S256x1280_256_0))
      (View.ld W (Rect.unit ![768, 0] ![1280, 2048] inb_S2048x2048_S1280x2048_768_0))
      (View.ld H (Rect.unit ![256, 0] ![256, 2048] inb_S512x2048_S256x2048_256_0)) G) (k0_pay6 (F := Ideal) Be) (ix2 r q) =
    blockOut A B W H G Be ⟨256 + r.val, by omega⟩ q := by
  rw [bottom_at]
  unfold blockOut
  pointwise

/-- Loading from the scratch just written loads from what was written. -/
theorem load_kept (X : Vec Ideal S2048x2048 .bf16) (r : Rect S2048x2048) :
    (View.whole cc0_scratch0).readCov (Val := Elt Ideal)
      [⟨Rect.unit ![0, 0] ![2048, 2048] inb_S2048x2048_S2048x2048_0_0, X⟩] r.toLoadRect = View.ld X r := by
  rw [View.readCov_eq_canon']
  funext j
  exact congrFun (View.canon_cons_unit_zero (S := S2048x2048) (off := ![0, 0]) (by decide) _ X []) _

/-- The two coordinates of an index, given as numbers, make the index. -/
theorem ix_split {n k : ℕ} (y : (⟨2, ![n, k]⟩ : Shape).Idx) : y = ix2 (y 0) (y 1) := by
  ext a; fin_cases a <;> rfl

/-- What the first point writes. -/
theorem first_out (c : Dev nD) (t : Fin cfg0.N) (h0 : t.val % 16 = 0) (y : S512x2048.Idx) :
    (outsAt0 m c t.val t.isLt).1 y = blockOut (iblk m c 0 t) (iblk m c 1 t) (k0_pay2 (F := Ideal) (iblk m c 2 t))
      (iblk m c 3 t) (iblk m c 4 t) (iblk m c 5 t) (y 0) (y 1) := by
  rw [outsAt0_A m c t h0]
  frame_out
  canon_tiles x h
  · rw [load_kept, load_kept, ix_split x]
    refine (bottom_piece _ _ _ _ _ _ _ _).trans ?_
    exact congrArg₂ _ (Fin.ext h0.symm) (Fin.ext h1.symm)
  · rw [load_kept, load_kept, ix_split x]
    refine (top_piece _ _ _ _ _ _ _ _).trans ?_
    exact congrArg₂ _ (Fin.ext h0.symm) (Fin.ext h1.symm)

/-- What a later point writes. -/
theorem later_out (c : Dev nD) (t : Fin cfg0.N) (h0 : ¬t.val % 16 = 0) (y : S512x2048.Idx) (w : Vec Ideal S2048x2048 .bf16)
    (hw : (outsAt0 m c (t.val - 1) (Nat.lt_of_le_of_lt (Nat.sub_le _ _) t.isLt)).2 = w) :
    (outsAt0 m c t.val t.isLt).1 y = blockOut (iblk m c 0 t) (iblk m c 1 t) w
      (iblk m c 3 t) (iblk m c 4 t) (iblk m c 5 t) (y 0) (y 1) := by
  rw [outsAt0_B m c t h0, hw]
  frame_out
  simp only [read_unread_whole]
  canon_tiles x h
  · rw [ix_split x]
    refine (bottom_piece _ _ _ _ _ _ _ _).trans ?_
    exact congrArg₂ _ (Fin.ext h0.symm) (Fin.ext h1.symm)
  · rw [ix_split x]
    refine (top_piece _ _ _ _ _ _ _ _).trans ?_
    exact congrArg₂ _ (Fin.ext h0.symm) (Fin.ext h1.symm)

/-- The windows' block indices at a point, all points at once. -/
theorem idx : ∀ t : Fin cfg0.N, win0_0.index t = ![t.val, 0] ∧ win0_1.index t = ![t.val, 0] ∧
    win0_2.index t = ![0, 0] ∧ win0_3.index t = ![t.val, 0] ∧ win0_4.index t = ![0, 0] ∧
    win0_5.index t = ![0, 0] ∧ win0_6.index t = ![t.val, 0] ∧ t.val < 16 :=
  (by decide +kernel : ∀ t : Fin grid0.N, _)

section Blocks

variable (c : Dev nD) (t : Fin cfg0.N)

/-- The two head groups, the weights, the residual and the affine rows as functions of their indices. -/
abbrev Ha (r : Fin 8192) (k : Fin 768) : EReal := (m ((c : Thread nD τ).loc main_arg0) : FVec Ideal S8192x768 .bf16) (ix2 r k)
/-- The second group of heads. -/
abbrev Hb (r : Fin 8192) (k : Fin 1280) : EReal := (m ((c : Thread nD τ).loc main_arg1) : FVec Ideal S8192x1280 .bf16) (ix2 r k)
/-- The weights. -/
abbrev Wo (k q : Fin 2048) : EReal := (m ((c : Thread nD τ).loc main_arg2) : FVec Ideal S2048x2048 .f32) (ix2 k q)
/-- The residual. -/
abbrev Res (r : Fin 8192) (q : Fin 2048) : EReal := (m ((c : Thread nD τ).loc main_arg3) : FVec Ideal S8192x2048 .f32) (ix2 r q)
/-- The norm's gains. -/
abbrev Gn (q : Fin 2048) : EReal := (m ((c : Thread nD τ).loc main_arg4) : FVec Ideal S1x2048 .f32) (ix2 0 q)
/-- The norm's biases. -/
abbrev Bs (q : Fin 2048) : EReal := (m ((c : Thread nD τ).loc main_arg5) : FVec Ideal S1x2048 .f32) (ix2 0 q)

/-- A block's rows are rows of the array. -/
theorem row_lt (r : Fin 512) : 512 * t.val + r.val < 8192 := by
  have := (idx t).2.2.2.2.2.2.2
  omega

/-- The first heads that a point reads. -/
theorem blk_a (r : Fin 512) (k : Fin 768) :
    (iblk m c 0 t : Vec Ideal S512x768 .bf16) (ix2 r k) = Ha m c ⟨512 * t.val + r.val, row_lt t r⟩ k := by
  blk_ext [iblk, V, idx t]

/-- The second heads that a point reads. -/
theorem blk_b (r : Fin 512) (k : Fin 1280) :
    (iblk m c 1 t : Vec Ideal S512x1280 .bf16) (ix2 r k) = Hb m c ⟨512 * t.val + r.val, row_lt t r⟩ k := by
  blk_ext [iblk, V, idx t]

/-- The weights that a point reads. -/
theorem blk_w (k q : Fin 2048) : (iblk m c 2 t : Vec Ideal S2048x2048 .f32) (ix2 k q) = Wo m c k q := by
  blk_ext [iblk, V, idx t]

/-- The residual that a point reads. -/
theorem blk_res (r : Fin 512) (q : Fin 2048) :
    (iblk m c 3 t : Vec Ideal S512x2048 .f32) (ix2 r q) = Res m c ⟨512 * t.val + r.val, row_lt t r⟩ q := by
  blk_ext [iblk, V, idx t]

/-- The gains that a point reads. -/
theorem blk_g (q : Fin 2048) : (iblk m c 4 t : Vec Ideal S1x2048 .f32) (ix2 0 q) = Gn m c q := by
  blk_ext [iblk, V, idx t]

/-- The biases that a point reads. -/
theorem blk_be (q : Fin 2048) : (iblk m c 5 t : Vec Ideal S1x2048 .f32) (ix2 0 q) = Bs m c q := by
  blk_ext [iblk, V, idx t]

/-- Row `r` of the result: the layer norm of the scaled residual plus the two projected head groups. -/
def outRow (r : Fin 8192) (q : Fin 2048) : EReal :=
  Ffn.norm (fun x => Ideal.ofBits .f32 0x3F9837F0#32 * Res m c r x +
    ((∑ k : Fin 768, Ha m c r k * Wo m c ⟨k.val, by omega⟩ x) +
      ∑ k : Fin 1280, Hb m c r k * Wo m c ⟨768 + k.val, by omega⟩ x)) (Gn m c q) (Bs m c q) q

/-- Whoever keeps the weights computes the result's rows from the point's blocks. -/
theorem block_row (w : Vec Ideal S2048x2048 .bf16) (hw : ∀ k q, w (ix2 k q) = Wo m c k q) (r : Fin 512) (q : Fin 2048) :
    blockOut (iblk m c 0 t) (iblk m c 1 t) w (iblk m c 3 t) (iblk m c 4 t) (iblk m c 5 t) r q =
      outRow m c ⟨512 * t.val + r.val, row_lt t r⟩ q := by
  unfold blockOut outRow
  simp only [blk_a, blk_b, blk_res, blk_g, blk_be, hw]

end Blocks

/-- Every point holds the weights in its scratch. -/
theorem kept (c : Dev nD) : ∀ (n : ℕ) (hn : n < cfg0.N) (k q : Fin 2048), (outsAt0 m c n hn).2 (ix2 k q) = Wo m c k q
  | 0, hn, k, q => by
    have := first_kept m c ⟨0, hn⟩ rfl
    exact (congrFun this _).trans ((kept_at _ k q).trans (blk_w m c ⟨0, hn⟩ k q))
  | n + 1, hn, k, q => by
    have hN := (idx ⟨n + 1, hn⟩).2.2.2.2.2.2.2
    have hz : ¬(n + 1) % 16 = 0 := by
      have : n + 1 < 16 := hN
      omega
    exact (congrFun (later_kept m c ⟨n + 1, hn⟩ hz) _).trans (kept c n _ k q)

/-- What a point writes back. -/
theorem point_out (c : Dev nD) (t : Fin cfg0.N) (y : S512x2048.Idx) :
    (outsAt0 m c t.val t.isLt).1 y = outRow m c ⟨512 * t.val + (y 0).val, row_lt t (y 0)⟩ (y 1) := by
  by_cases h0 : t.val % 16 = 0
  · rw [first_out m c t h0 y]
    exact block_row m c t _ (fun k q => (kept_at _ k q).trans (blk_w m c t k q)) _ _
  · rw [later_out m c t h0 y _ rfl]
    exact block_row m c t _ (kept m c _ _) _ _

/-- The result array after the run. -/
def total (c : Dev nD) : Vec Ideal S8192x2048 .f32 := fun i => outRow m c (i 0) (i 1)

/-- The result array after the last point. -/
theorem final (c : Dev nD) : (dats m 0 c).arrAt 6 (cfgs 0).N = total m c := by
  refine (dats m 0 c).arrAt_eq_of_covers 6 _ (by decide +kernel) fun t hf y => ?_
  blk_simp
  rw [after0_6]
  obtain ⟨r, q, rfl⟩ : ∃ (r : Fin 512) (q : Fin 2048), y = ix2 r q := ⟨y 0, y 1, eq_ix2 y⟩
  have hi : ((cfg0.win 6).blk t).view.emb (ix2 r q) = (ix2 ⟨512 * t.val + r.val, row_lt t r⟩ q : S8192x2048.Idx) := by
    blk_ext [idx t]
  rw [hi]
  exact point_out m c t (ix2 r q)

end Cert.OutProjIdeal.Own
-- ==== Proof.OutRef.lean ====
module

public import proofs.«01_k».proof.Proof.Gen.RefOutProjIdeal.Run
public import Idealize.ShloMosaic.Lib.Pointwise
public import proofs.«01_k».proof.Proof.FfnMath

@[expose] public section

/-!
# What the plain output projection computes

The two head groups side by side times the weights, plus the scaled residual, then the layer norm.
-/

set_option maxRecDepth 16384

noncomputable section

namespace Cert.RefOutProjIdeal.Own

open Cert.RefOutProjIdeal Cert.RefOutProjIdeal.Gen Cert.RefOutProjIdeal.Value
open Idealize.ShloMosaic Idealize.ShloMosaic.TcCoe Idealize.SL.Sem

variable (m : (ℓ : Loc nD τ sig) → Buf (Elt Ideal) ℓ)

/-- The two head groups side by side. -/
def joined (a : FVec Ideal S8192x768 .bf16) (b : FVec Ideal S8192x1280 .bf16) : FVec Ideal S8192x2048 .f32 :=
  concatenate S8192x2048 1 [⟨S8192x768, (extf .f32 a bitsLt_bf16_f32 : FVec Ideal S8192x768 .f32)⟩,
    ⟨S8192x1280, (extf .f32 b bitsLt_bf16_f32 : FVec Ideal S8192x1280 .f32)⟩] concatenates_S8192x768_S8192x1280_S8192x2048_d1

/-- The scaled residual plus the projected heads. -/
def mixed (z : FVec Ideal S8192x2048 .f32) (w : FVec Ideal S2048x2048 .f32) (h : FVec Ideal S8192x2048 .f32) :
    FVec Ideal S8192x2048 .f32 :=
  addf (mulf (broadcastInDim S8192x2048 ![] bcast_S_S8192x2048 (constant S_ .f32 0x3F9837F0#32)) h)
    (Host.dotGeneral dot_S8192x2048_S2048x2048_S8192x2048_1_0_0_1_n_n none z w)

/-- The mean of every row. -/
def rowMean (y : FVec Ideal S8192x2048 .f32) : FVec Ideal S8192x1 .f32 :=
  Host.divf (broadcastInDim S8192x1 ![0] bcast_S8192_S8192x1_0
      (Host.reduceAdd y (constant S_ .f32 0x00000000#32) reducesTo_S8192x2048_S8192_d1 h_S_))
    (broadcastInDim S8192x1 ![] bcast_S_S8192x1 (constant S_ .f32 0x45000000#32))

/-- Every row minus its mean. -/
def centred (y : FVec Ideal S8192x2048 .f32) : FVec Ideal S8192x2048 .f32 :=
  subf y (broadcastInDim S8192x2048 ![0, 1] bcast_S8192x1_S8192x2048_0_1 (rowMean y))

/-- The layer norm of every row. -/
def normed (y : FVec Ideal S8192x2048 .f32) (g b : FVec Ideal S1x2048 .f32) : FVec Ideal S8192x2048 .f32 :=
  addf (mulf (mulf (centred y) (broadcastInDim S8192x2048 ![0, 1] bcast_S8192x1_S8192x2048_0_1
      (Host.rsqrt (addf (rowMean (mulf (centred y) (centred y)))
        (broadcastInDim S8192x1 ![] bcast_S_S8192x1 (constant S_ .f32 0x3727C5AC#32))))))
    (broadcastInDim S8192x2048 ![0, 1] bcast_S1x2048_S8192x2048_0_1
      (broadcastInDim S1x2048 ![1] bcast_S2048_S1x2048_1 (shapeCast _ g shapeCasts_S1x2048_S2048))))
    (broadcastInDim S8192x2048 ![0, 1] bcast_S1x2048_S8192x2048_0_1
      (broadcastInDim S1x2048 ![1] bcast_S2048_S1x2048_1 (shapeCast _ b shapeCasts_S1x2048_S2048)))

/-- The reference's result is the composition of these stages. -/
theorem out_eq (c : Dev nD) :
    res_out0 (F := Ideal) m c =
      normed (mixed (joined (m ((c.tc : Thread nD τ).loc main_arg0)) (m ((c.tc : Thread nD τ).loc main_arg1)))
          (m ((c.tc : Thread nD τ).loc main_arg2)) (m ((c.tc : Thread nD τ).loc main_arg3)))
        (m ((c.tc : Thread nD τ).loc main_arg4)) (m ((c.tc : Thread nD τ).loc main_arg5)) := rfl

/-- The first group stands on the left, -/
theorem joined_left (a : FVec Ideal S8192x768 .bf16) (b : FVec Ideal S8192x1280 .bf16) (r : Fin 8192) (k : Fin 768) :
    joined a b (ix2 r ⟨k.val, by omega⟩) = a (ix2 r k) := by
  pointwise [joined]

/-- and the second on the right. -/
theorem joined_right (a : FVec Ideal S8192x768 .bf16) (b : FVec Ideal S8192x1280 .bf16) (r : Fin 8192) (k : Fin 1280) :
    joined a b (ix2 r ⟨768 + k.val, by omega⟩) = b (ix2 r k) := by
  pointwise [joined]

/-- An entry before the norm. -/
theorem mixed_at (z : FVec Ideal S8192x2048 .f32) (w : FVec Ideal S2048x2048 .f32) (h : FVec Ideal S8192x2048 .f32)
    (r : Fin 8192) (q : Fin 2048) :
    mixed z w h (ix2 r q) = Ideal.ofBits .f32 0x3F9837F0#32 * h (ix2 r q) + ∑ k : Fin 2048, z (ix2 r k) * w (ix2 k q) := by
  pointwise [mixed]

/-- A sum over all heads is the sum over the first group plus the sum over the second. -/
theorem sum_groups (f : Fin 2048 → EReal) :
    ∑ k, f k = (∑ k : Fin 768, f ⟨k.val, by omega⟩) + ∑ k : Fin 1280, f ⟨768 + k.val, by omega⟩ :=
  Fin.sum_univ_add (a := 768) (b := 1280) f

/-- The mean of a row. -/
theorem rowMean_at (y : FVec Ideal S8192x2048 .f32) (r : Fin 8192) :
    rowMean y (ix2 r 0) = Ideal.div (∑ x : Fin 2048, y (ix2 r x)) (Ideal.ofBits .f32 0x45000000#32) := by
  pointwise [rowMean]

/-- An entry less the mean of its row. -/
theorem centred_at (y : FVec Ideal S8192x2048 .f32) (r : Fin 8192) (q : Fin 2048) :
    centred y (ix2 r q) = y (ix2 r q) - rowMean y (ix2 r 0) := by
  pointwise [centred]

/-- A normed entry. -/
theorem normed_at (y : FVec Ideal S8192x2048 .f32) (g b : FVec Ideal S1x2048 .f32) (r : Fin 8192) (q : Fin 2048) :
    normed y g b (ix2 r q) = Ffn.norm (fun x => y (ix2 r x)) (g (ix2 0 q)) (b (ix2 0 q)) q := by
  have e : normed y g b (ix2 r q) = centred y (ix2 r q) * Ideal.rsqrt (rowMean (mulf (centred y) (centred y)) (ix2 r 0) +
      Ideal.ofBits .f32 0x3727C5AC#32) * g (ix2 0 q) + b (ix2 0 q) := by
    pointwise [normed]
  have s : ∀ x : Fin 2048, (mulf (centred y) (centred y) : FVec Ideal S8192x2048 .f32) (ix2 r x) =
      centred y (ix2 r x) * centred y (ix2 r x) := fun _ => rfl
  rw [e, rowMean_at]
  simp only [s, centred_at, rowMean_at]
  rfl

/-- The reference's result at row `r`, column `q`. -/
theorem out_at (a : FVec Ideal S8192x768 .bf16) (b : FVec Ideal S8192x1280 .bf16) (w : FVec Ideal S2048x2048 .f32)
    (h : FVec Ideal S8192x2048 .f32) (g be : FVec Ideal S1x2048 .f32) (r : Fin 8192) (q : Fin 2048) :
    normed (mixed (joined a b) w h) g be (ix2 r q) =
      Ffn.norm (fun x => Ideal.ofBits .f32 0x3F9837F0#32 * h (ix2 r x) +
        ((∑ k : Fin 768, a (ix2 r k) * w (ix2 ⟨k.val, by omega⟩ x)) +
          ∑ k : Fin 1280, b (ix2 r k) * w (ix2 ⟨768 + k.val, by omega⟩ x))) (g (ix2 0 q)) (be (ix2 0 q)) q := by
  rw [normed_at]
  simp only [mixed_at, sum_groups, joined_left, joined_right]

end Cert.RefOutProjIdeal.Own
-- ==== Proof.OutClaim.lean ====
module

public import proofs.«01_k».proof.Defs
public import proofs.«01_k».proof.Proof.Gen.OutProj.Frame
public import proofs.«01_k».proof.Proof.OutPoint
public import proofs.«01_k».proof.Proof.OutRef
public import Idealize.ShloMosaic.Adequacy
public import Idealize.ShloMosaic.Init
public import Idealize.ShloMosaic.Lib.Claim

@[expose] public section

/-!
# The claims about the output projection

The kernel adds the products of the two head groups, the reference multiplies the groups side by side;
the rest is the same function of a row.
-/

set_option maxRecDepth 16384

noncomputable section

namespace Cert.Proof.OutProj

open Idealize.ShloMosaic Idealize.SL.Sem

/-- The kernel on compiled floats ends, its arguments unchanged. -/
theorem frame : Cert.quiescent_OutProj := fun m ρ _ => Cert.OutProj.Gen.frame m ρ

/-- So does the kernel on ideal floats, -/
theorem frame_ideal : Cert.quiescent_OutProjIdeal := fun m ρ _ => Cert.OutProjIdeal.Gen.frame m ρ

/-- and the reference. -/
theorem frame_ref : Cert.quiescent_RefOutProjIdeal := fun m ρ _ =>
  (θ_run Cert.RefOutProjIdeal.defs _ _).mono
    (fun r h => ⟨fun c => (h c).2, Idealize.ShloMosaic.sem_eq_zero_of_no_sems (by decide) r.2⟩)
    (Cert.RefOutProjIdeal.Value.run (F := Ideal) m ρ)

/-- The idealized kernel is the kernel read over ideal floats: no constant is named. -/
theorem preserves : Cert.preserves_OutProj_OutProjIdeal := trivial

/-- On the same arguments the kernel and the reference end with the same result. -/
theorem algebraic : Cert.algebraic_OutProjIdeal_RefOutProjIdeal := by
  pair_intro
  · run_from Cert.OutProjIdeal.Value.run_blocks m g
  · run_from Cert.RefOutProjIdeal.Value.run m' g'
    rw [Cert.OutProjIdeal.Own.final m c]
    refine (Cert.RefOutProjIdeal.Own.out_eq m' c).trans ?_
    obtain ⟨e0, e1, e2, e3, e4, e5⟩ := hagree c
    rw [e0, e1, e2, e3, e4, e5]
    funext j
    obtain ⟨r, q, rfl⟩ : ∃ (r : Fin 8192) (q : Fin 2048), j = ix2 r q := ⟨j 0, j 1, eq_ix2 j⟩
    exact Cert.RefOutProjIdeal.Own.out_at _ _ _ _ _ _ r q

end Cert.Proof.OutProj

end
-- ==== Proof.InBits.lean ====
module

public import proofs.«01_k».proof.Proof.Gen.InProj.Frame
public import proofs.«01_k».proof.Defs
public import Idealize.ShloMosaic.Lib.Claim

@[expose] public section

/-!
# The projection into heads as compiled: its frame

The body is run at the compiled floats.  Nothing is said of what it leaves in the two outputs and in
the scratch memory; the blocks it reads stay as they were.
-/

set_option maxRecDepth 16384

noncomputable section

namespace InBits

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-- The first head block of a row block, where the activations are kept and the gates written. -/
abbrev cond0_0 (i : grid0.Coords) : Prop := k0_cond1 i = 1#1

set_option maxHeartbeats 2000000 in
/-- The body at any grid point, on any contents. -/
theorem run_body (c : Dev nD) (i : grid0.Coords) (arg2 : Memref sig .tc .vmem S1024x2048 .f32) (harg2 : arg2.IsWhole)
    (arg3 : Memref sig .tc .vmem S1024x2048 .bf16) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S256x2048 .bf16) (harg6 : arg6.IsWhole)
    (arg7 : Memref sig .tc .vmem S1x256 .f32) (harg7 : arg7.IsWhole) (arg8 : Memref sig .tc .vmem S8x1024x128 .bf16) (harg8 : arg8.IsWhole)
    (arg9 : Memref sig .tc .vmem S1024x256 .f32) (harg9 : arg9.IsWhole) (arg10 : Memref sig .tc .vmem S1024x2048 .bf16) (harg10 : arg10.IsWhole)
    (x0 : Vec Bits S1024x2048 .f32) (x1 : Vec Bits S1024x2048 .bf16) (x2 x3 : Vec Bits S1024x128 .f32)
    (x4 : Vec Bits S256x2048 .bf16) (x5 : Vec Bits S1x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4 ∗ owns (c : Thread nD τ) arg7 fullShare x5
              ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := Bits)) Variants.none c none) E (cc0_in_proj i arg2 harg2 arg3 harg3 arg4 harg4 arg5 harg5 arg6 harg6 arg7 harg7 arg8 harg8 arg9 harg9 arg10 harg10) K := by
  intro E K
  by_cases hc0 : cond0_0 i
  all_goals
    unfold cc0_in_proj
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

/-- The staging buffers of the windows at a point, and the scratch that keeps the activations. -/
abbrev ms0_0 (t : Fin cfg0.N) : Memref sig .tc .vmem S1024x2048 .f32 := win0_0.stage (cfg0.slots t 0)
/-- The staging buffer of the second window at a point. -/
abbrev ms0_1 (t : Fin cfg0.N) : Memref sig .tc .vmem S1024x2048 .bf16 := win0_1.stage (cfg0.slots t 1)
/-- The staging buffer of the third window at a point. -/
abbrev ms0_2 (t : Fin cfg0.N) : Memref sig .tc .vmem S1024x128 .f32 := win0_2.stage (cfg0.slots t 2)
/-- The staging buffer of the fourth window at a point. -/
abbrev ms0_3 (t : Fin cfg0.N) : Memref sig .tc .vmem S1024x128 .f32 := win0_3.stage (cfg0.slots t 3)
/-- The staging buffer of the fifth window at a point. -/
abbrev ms0_4 (t : Fin cfg0.N) : Memref sig .tc .vmem S256x2048 .bf16 := win0_4.stage (cfg0.slots t 4)
/-- The staging buffer of the sixth window at a point. -/
abbrev ms0_5 (t : Fin cfg0.N) : Memref sig .tc .vmem S1x256 .f32 := win0_5.stage (cfg0.slots t 5)
/-- The staging buffer of the seventh window at a point. -/
abbrev ms0_6 (t : Fin cfg0.N) : Memref sig .tc .vmem S8x1024x128 .bf16 := win0_6.stage (cfg0.slots t 6)
/-- The staging buffer of the eighth window at a point. -/
abbrev ms0_7 (t : Fin cfg0.N) : Memref sig .tc .vmem S1024x256 .f32 := win0_7.stage (cfg0.slots t 7)
/-- The buffer that keeps the narrowed rows between points. -/
abbrev scM0_0 : Memref sig .tc .vmem S1024x2048 .bf16 := Memref.whole cc0_scratch0

/-- What the body holds besides the windows. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- After the body at `t` the inputs are at their blocks; of the outputs nothing is said (`forgotten`). -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => fun _ => (0#16 : BitVec 16)
    | ⟨7, _⟩ => fun _ => (0#32 : BitVec 32)
  Φ _ := Pipeline.ΦA spec0 c
  q _ := fullShare
  owed _ := 0

/-- The arrays the windows read and write are the launched ones. -/
theorem A_eq (c : Dev nD) (w : Fin cfg0.W) : (dats m 0 c).A w = V m c (Pipeline.arrRef spec0 w) := by
  dsimp only [dats]

/-- What the first window holds after a point. -/
theorem after0_0 (c : Dev nD) (t : Fin cfg0.N) : (dats m 0 c).after 0 t = iblk m c 0 t := by dsimp only [dats]
/-- What the second window holds after a point. -/
theorem after0_1 (c : Dev nD) (t : Fin cfg0.N) : (dats m 0 c).after 1 t = X0_1 m c t := by dsimp only [dats]
/-- What the third window holds after a point. -/
theorem after0_2 (c : Dev nD) (t : Fin cfg0.N) : (dats m 0 c).after 2 t = iblk m c 2 t := by dsimp only [dats]
/-- What the fourth window holds after a point. -/
theorem after0_3 (c : Dev nD) (t : Fin cfg0.N) : (dats m 0 c).after 3 t = iblk m c 3 t := by dsimp only [dats]
/-- What the fifth window holds after a point. -/
theorem after0_4 (c : Dev nD) (t : Fin cfg0.N) : (dats m 0 c).after 4 t = iblk m c 4 t := by dsimp only [dats]
/-- What the sixth window holds after a point. -/
theorem after0_5 (c : Dev nD) (t : Fin cfg0.N) : (dats m 0 c).after 5 t = iblk m c 5 t := by dsimp only [dats]
/-- What the first window holds before a point. -/
theorem before0_0 (c : Dev nD) (t : Fin cfg0.N) (d) : (dats m 0 c).before 0 t d = iblk m c 0 t :=
  before0_0_of m (dats m 0 c) (A_eq m c 0) (after0_0 m c) t d
/-- What the second window holds before a point. -/
theorem before0_1 (c : Dev nD) (t : Fin cfg0.N) (d) : (dats m 0 c).before 1 t d = X0_1 m c t :=
  before0_1_of m (dats m 0 c) (A_eq m c 1) (after0_1 m c) t d
/-- What the third window holds before a point. -/
theorem before0_2 (c : Dev nD) (t : Fin cfg0.N) (d) : (dats m 0 c).before 2 t d = iblk m c 2 t :=
  before0_2_of m (dats m 0 c) (A_eq m c 2) (after0_2 m c) t d
/-- What the fourth window holds before a point. -/
theorem before0_3 (c : Dev nD) (t : Fin cfg0.N) (d) : (dats m 0 c).before 3 t d = iblk m c 3 t :=
  before0_3_of m (dats m 0 c) (A_eq m c 3) (after0_3 m c) t d
/-- What the fifth window holds before a point. -/
theorem before0_4 (c : Dev nD) (t : Fin cfg0.N) (d) : (dats m 0 c).before 4 t d = iblk m c 4 t :=
  before0_4_of m (dats m 0 c) (A_eq m c 4) (after0_4 m c) t d
/-- What the sixth window holds before a point. -/
theorem before0_5 (c : Dev nD) (t : Fin cfg0.N) (d) : (dats m 0 c).before 5 t d = iblk m c 5 t :=
  before0_5_of m (dats m 0 c) (A_eq m c 5) (after0_5 m c) t d

/-- What the body at point `t` is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (cfg0.grid.coords t) d (win0_1.cut (cfg0.grid.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

/-- The windows of the outputs are those nothing is said of. -/
abbrev forgotten : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true

set_option maxHeartbeats 2000000 in
/-- The body at any point. -/
theorem sound_body (c : Dev nD) (t : Fin cfg0.N) :
    bodyPre m c t ⊢ wp frame (wpE (defs₀ (F := Bits)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, H6, H7⟩
  iapply (run_body c (grid0.coords t) _ _ _ _ _ _ _ _ _ _ _ _ _ _ _ _ _ _ (iblk m c 0 t) (X0_1 m c t) (iblk m c 2 t) (iblk m c 3 t)
    (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]; · iexact HS0
    iexact Hg
  isplitl [Ho]; · iexact Ho
  isplitl [H0]; · iexact H0
  isplitl [H1]
  · iexists X0_1 m c t
    rw [Pipeline.Window.fill_cut]; iexact H1
  isplitl [H2]; · iexact H2
  isplitl [H3]; · iexact H3
  isplitl [H4]; · iexact H4
  isplitl [H5]; · iexact H5
  isplitl [H6]; · iexact H6
  iexact H7

/-- The body that is run at a point. -/
theorem defs₀_row (t : Fin cfg0.N) :
    defs₀ (F := Bits) .tc cfg0.body (cfg0.bodyArgs t (cfg0.slots t)) = bodyAt0 t := by
  unfold defs₀; rw [Defs.onTc_tc]

/-- The body keeps its contract at every point. -/
theorem body_obligation (c : Dev nD) : BodyObligationLoose (dats m 0 c) (defs₀ (F := Bits)) Variants.none () Set.univ forgotten := fun t => by
  rw [bigSep_W0, bigSep_W0, defs₀_row]
  exact triple_restated (sound_body m c t) rfl .rfl fun _ => .rfl

set_option backward.isDefEq.respectTransparency.types false in
/-- The launch, with every semaphore counter at zero at the end. -/
theorem run_main : θ_run defs (onTc (τ := τ) (main (F := Bits))) (s₀ m ρ) (fun r => (RDat.FramePost cfg0 (fun c => (dats m 0 c).toRForget forgotten) (V m)) r ∧ r.2.sem = fun _ => 0) :=
  Pipeline.θ_run_frame_track_forget (Q' := _) cfgs (dats m) (0 : Fin 1) launch0 defs₀ Variants.none forgotten m ρ main
    (hbody := body_obligation m) (hshare := fun c => (dats m 0 c).share_full fun _ => rfl)
    (howed := fun _ _ => rfl) (V := V m) (hmain := hmain m Variants.none) (hA := A_eq m) (hin := fun _ => .rfl) (hout := fun _ => .rfl)

/-- The frame: every run ends, the arguments as launched. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(Eq.mp (congrFun (((dats m 0 c).toRForget forgotten).ArrAt_in 0 rfl _) _) ((h.1 c).1 0) : _ = _).trans
        ((A_eq m c 0).trans (V_main_arg0 m c)),
      (Eq.mp (congrFun (((dats m 0 c).toRForget forgotten).ArrAt_in 1 rfl _) _) ((h.1 c).1 1) : _ = _).trans
        ((A_eq m c 1).trans (V_main_arg1 m c)),
      (Eq.mp (congrFun (((dats m 0 c).toRForget forgotten).ArrAt_in 2 rfl _) _) ((h.1 c).1 2) : _ = _).trans
        ((A_eq m c 2).trans (V_main_arg2 m c)),
      (Eq.mp (congrFun (((dats m 0 c).toRForget forgotten).ArrAt_in 3 rfl _) _) ((h.1 c).1 3) : _ = _).trans
        ((A_eq m c 3).trans (V_main_arg3 m c)),
      (Eq.mp (congrFun (((dats m 0 c).toRForget forgotten).ArrAt_in 4 rfl _) _) ((h.1 c).1 4) : _ = _).trans
        ((A_eq m c 4).trans (V_main_arg4 m c)),
      (Eq.mp (congrFun (((dats m 0 c).toRForget forgotten).ArrAt_in 5 rfl _) _) ((h.1 c).1 5) : _ = _).trans
        ((A_eq m c 5).trans (V_main_arg5 m c))⟩, h.2⟩) (run_main m ρ)

end InBits

end
-- ==== Proof.InMath.lean ====
module

public import Idealize.ShloMosaic.Lib.Pointwise

@[expose] public section

/-!
# A head's entry after the projection

Which heads are turned, which are queries, and what an entry of a head is from the projected row.
-/

noncomputable section

namespace InMath

open Idealize.ShloMosaic

/-- The heads that are queries: of the dilated group, then of the sparse group. -/
def Query (h : ℕ) : Prop := h < 6 ∨ (18 ≤ h ∧ h < 28)

/-- The heads that are turned by their position: the queries and the keys. -/
def Turned (h : ℕ) : Prop := Query h ∨ h < 12 ∨ (32 ≤ h ∧ h < 34) ∨ (36 ≤ h ∧ h < 38)

instance (h : ℕ) : Decidable (Query h) := by unfold Query; infer_instance
instance (h : ℕ) : Decidable (Turned h) := by unfold Turned; infer_instance

/-- The lane half a head away. -/
def across (d : Fin 128) : Fin 128 := ⟨(d.val + 64) % 128, Nat.mod_lt _ (by norm_num)⟩

/-- What queries are divided by. -/
def scale : ℝ := Real.sqrt 128 * Real.log 2

/-- The divisor is not zero. -/
theorem scale_ne : scale ≠ 0 :=
  mul_ne_zero (Real.sqrt_ne_zero'.mpr (by norm_num)) (Real.log_pos (by norm_num)).ne'

/-- A row turned by its angles. -/
def turn (x co si : Fin 128 → EReal) (d : Fin 128) : EReal := x d * co d + x (across d) * si d

/-- An entry of head `h`. -/
def entry (h : ℕ) (x co si : Fin 128 → EReal) (d : Fin 128) : EReal :=
  (if Turned h then turn x co si d else x d) * (if Query h then ((scale⁻¹ : ℝ) : EReal) else 1)

end InMath

end
-- ==== Proof.InBlock.lean ====
module

public import proofs.«01_k».proof.Proof.Gen.InProjIdeal.Frame
public import Idealize.ShloMosaic.Lib.Pointwise
public import proofs.«01_k».proof.Proof.InMath

@[expose] public section

/-!
# One block of the projection into heads

What the kernel's operations on one block of rows and one block of heads come to, entry by entry.
-/

set_option maxRecDepth 16384

noncomputable section

namespace InP

open Cert.InProjIdeal Cert.InProjIdeal.Gen Idealize.ShloMosaic Idealize.ShloMosaic.TcCoe Idealize.SL.Sem

/-- Whether the head of that number is a query, as a bit. -/
def queryBit (w : BitVec 32) : BitVec 1 :=
  Scalar.ori (Scalar.cmpi .slt w 6#32) (Scalar.andi (Scalar.cmpi .sge w 18#32) (Scalar.cmpi .slt w 28#32))

/-- Whether the head of that number is turned, as a bit. -/
def turnBit (w : BitVec 32) : BitVec 1 :=
  Scalar.ori (Scalar.ori (Scalar.ori (queryBit w) (Scalar.cmpi .slt w 12#32))
    (Scalar.andi (Scalar.cmpi .sge w 32#32) (Scalar.cmpi .slt w 34#32)))
    (Scalar.andi (Scalar.cmpi .sge w 36#32) (Scalar.cmpi .slt w 38#32))

/-- The number of head `k0 + k1` of head block `j`, as a word. -/
def headWord (j : Fin 5) (k0 k1 : BitVec 32) : BitVec 32 :=
  Scalar.addi (Scalar.addi (Scalar.muli (BitVec.ofNat 32 j.val) 8#32) k0) k1

/-- Two heads' rows: the kept activations times 256 rows of the weights. -/
def pair (b : Vec Ideal S1024x2048 .bf16) (w : Vec Ideal S256x2048 .bf16) : FVec Ideal S1024x256 .f32 :=
  matmul (F := Ideal) (φ₁ := .bf16) (φ₂ := .bf16) dot_S1024x2048_S256x2048_S1024x256_1_1_0_0_n_n none b w (constant (F := Ideal) S1024x256 .f32 0x00000000#32)

/-- One head from its rows. -/
def head (w : BitVec 32) (x : FVec Ideal S1024x128 .f32) (co si : Vec Ideal S1024x128 .f32) : FVec Ideal S1x1024x128 .bf16 :=
  shapeCast S1x1024x128 (truncf .bf16 (mulf
    (Scalar.select (turnBit w) (addf (mulf x co) (mulf (dynamicRotate 1 64#32 none x rotates_S1024x128_d1) si)) x)
    (broadcast S1024x128 (Scalar.select (queryBit w) (Named.named (F := Ideal) κ "qscale" 0x3E0293EE#32 : Ideal .f32) (Scalar.ofBits .f32 0x3F800000#32)))) bitsLt_bf16_f32)
    shapeCasts_S1024x128_S1x1024x128

/-- The gates of a block of rows. -/
def gates (b : Vec Ideal S1024x2048 .bf16) (w : Vec Ideal S256x2048 .bf16) (g : Vec Ideal S1x256 .f32) : FVec Ideal S1024x256 .f32 :=
  logistic (addf (pair b w) (broadcastTo S1024x256 g broadcasts_S1x256_S1024x256))

/-- Two heads' product with their weights, at an index. -/
theorem pair_at (b : Vec Ideal S1024x2048 .bf16) (w : Vec Ideal S256x2048 .bf16) (r : Fin 1024) (n : Fin 256) :
    pair b w (ix2 r n) = ∑ k : Fin 2048, b (ix2 r k) * w (ix2 n k) := by
  pointwise [pair]

/-- The gates, entry by entry. -/
theorem gates_at (b : Vec Ideal S1024x2048 .bf16) (w : Vec Ideal S256x2048 .bf16) (g : Vec Ideal S1x256 .f32) (r : Fin 1024) (n : Fin 256) :
    gates b w g (ix2 r n) = Ideal.logistic ((∑ k : Fin 2048, b (ix2 r k) * w (ix2 n k)) + g (ix2 0 n)) := by
  pointwise [gates]
  rw [pair_at]

/-- The bit that selects the scale tells whether a head is a query. -/
theorem query_iff : ∀ (j : Fin 5) (k0 : Fin 4) (k1 : Fin 2),
    queryBit (headWord j (BitVec.ofNat 32 (2 * k0.val)) (BitVec.ofNat 32 k1.val)) = if InMath.Query (8 * j.val + (2 * k0.val + k1.val)) then 1#1 else 0#1 := by
  decide +kernel

/-- The bit that selects the turned entries tells whether a head is turned. -/
theorem turned_iff : ∀ (j : Fin 5) (k0 : Fin 4) (k1 : Fin 2),
    turnBit (headWord j (BitVec.ofNat 32 (2 * k0.val)) (BitVec.ofNat 32 k1.val)) = if InMath.Turned (8 * j.val + (2 * k0.val + k1.val)) then 1#1 else 0#1 := by
  decide +kernel

/-- The named constant is one over the scale. -/
theorem named_scale : (Named.named (F := Ideal) κ "qscale" 0x3E0293EE#32 : Ideal .f32) = ((InMath.scale⁻¹ : ℝ) : EReal) := rfl

/-- Turning the lanes by half their number meets the opposite half. -/
theorem across_eq (d : Fin 128) (h : (d.val + 128 - 64) % 128 < 128) : (⟨(d.val + 128 - 64) % 128, h⟩ : Fin 128) = InMath.across d :=
  Fin.ext (by simp only [InMath.across]; omega)

/-- One head, entry by entry. -/
theorem head_at (j : Fin 5) (k0 : Fin 4) (k1 : Fin 2) (x : FVec Ideal S1024x128 .f32) (co si : Vec Ideal S1024x128 .f32) (r : Fin 1024) (d : Fin 128) :
    head (headWord j (BitVec.ofNat 32 (2 * k0.val)) (BitVec.ofNat 32 k1.val)) x co si (ix3 0 r d) =
      InMath.entry (8 * j.val + (2 * k0.val + k1.val)) (fun e => x (ix2 r e)) (fun e => co (ix2 r e)) (fun e => si (ix2 r e)) d := by
  unfold head
  rw [query_iff, turned_iff]
  unfold InMath.entry
  by_cases ht : InMath.Turned (8 * j.val + (2 * k0.val + k1.val)) <;> by_cases hq : InMath.Query (8 * j.val + (2 * k0.val + k1.val)) <;>
    simp only [ht, hq, if_true, if_false]
  all_goals pointwise
  all_goals try rw [named_scale]
  all_goals try rw [across_eq]
  all_goals rfl

/-- The rows of head `k` of a head block, projected. -/
def projRow (b W : Vec Ideal S1024x2048 .bf16) (r : Fin 1024) (k : Fin 8) (e : Fin 128) : EReal :=
  ∑ l : Fin 2048, b (ix2 r l) * W (ix2 ⟨128 * k.val + e.val, by omega⟩ l)

/-- The eight heads of head block `j` for a block of rows. -/
def heads (j : Fin 5) (b W : Vec Ideal S1024x2048 .bf16) (co si : Vec Ideal S1024x128 .f32) : Vec Ideal S8x1024x128 .bf16 :=
  fun y => InMath.entry (8 * j.val + (y 0).val) (projRow b W (y 1) (y 0)) (fun e => co (ix2 (y 1) e)) (fun e => si (ix2 (y 1) e)) (y 2)

/-- The stored piece of the first head of a pair is that head. -/
theorem left_at (j : Fin 5) (k0 : Fin 4) (b W : Vec Ideal S1024x2048 .bf16) (w : Vec Ideal S256x2048 .bf16) (co si : Vec Ideal S1024x128 .f32)
    (hw : ∀ n l, w (ix2 n l) = W (ix2 ⟨256 * k0.val + n.val, by omega⟩ l)) (r : Fin 1024) (d : Fin 128) :
    head (headWord j (BitVec.ofNat 32 (2 * k0.val)) 0#32) (extractStridedSlice S1024x128 ![0, 0] (pair b w) slices_S1024x256_o0_0_S1024x128) co si (ix3 0 r d) =
      heads j b W co si (ix3 ⟨2 * k0.val, by omega⟩ r d) := by
  refine (head_at j k0 0 _ co si r d).trans ?_
  unfold heads
  congr 1
  funext e
  pointwise
  rw [pair_at]
  unfold projRow
  refine Finset.sum_congr rfl fun l _ => ?_
  rw [hw]
  congr 2
  refine congrArg (fun n => ix2 n l) (Fin.ext ?_)
  simp
  omega

/-- The stored piece of the second head of a pair is that head. -/
theorem right_at (j : Fin 5) (k0 : Fin 4) (b W : Vec Ideal S1024x2048 .bf16) (w : Vec Ideal S256x2048 .bf16) (co si : Vec Ideal S1024x128 .f32)
    (hw : ∀ n l, w (ix2 n l) = W (ix2 ⟨256 * k0.val + n.val, by omega⟩ l)) (r : Fin 1024) (d : Fin 128) :
    head (headWord j (BitVec.ofNat 32 (2 * k0.val)) 1#32) (extractStridedSlice S1024x128 ![0, 128] (pair b w) slices_S1024x256_o0_128_S1024x128) co si (ix3 0 r d) =
      heads j b W co si (ix3 ⟨2 * k0.val + 1, by omega⟩ r d) := by
  refine (head_at j k0 1 _ co si r d).trans ?_
  unfold heads
  congr 1
  funext e
  pointwise
  rw [pair_at]
  unfold projRow
  refine Finset.sum_congr rfl fun l _ => ?_
  rw [hw]
  congr 2
  refine congrArg (fun n => ix2 n l) (Fin.ext ?_)
  simp
  omega

end InP

end
-- ==== Proof.InPiece.lean ====
module

public import proofs.«01_k».proof.Proof.InBlock
public import Idealize.ShloMosaic.Lib.Pipeline.ValueKit
public import Idealize.ShloMosaic.Lib.Claim

@[expose] public section

/-!
# Pieces of the projection's blocks

The stored pieces assembled to a block, and what loads of the blocks give.
-/

set_option maxRecDepth 16384

noncomputable section

namespace InP

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable {G : S8x1024x128.Idx → EReal}

/-- A piece of the first output is head `k`. -/
def Piece (G : S8x1024x128.Idx → EReal) (k : Fin 8) (u : S1x1024x128.Idx → EReal) : Prop :=
  ∀ (r : Fin 1024) (d : Fin 128), u (ix3 0 r d) = G (ix3 k r d)

/-- Stored at its place, the piece agrees with the block. -/
theorem piece_ok {k : Fin 8} {u : S1x1024x128.Idx → EReal} (hu : Piece G k u) {off : Fin 3 → ℕ} (hoff : off = ![k.val, 0, 0])
    (inb : ∀ a, off a + S1x1024x128.size a ≤ S8x1024x128.size a) (y : (Rect.unit (s := S8x1024x128) off S1x1024x128.size inb).shape.Idx) :
    u y = G ((Rect.unit (s := S8x1024x128) off S1x1024x128.size inb).emb y) := by
  subst hoff
  obtain ⟨r, d, rfl⟩ : ∃ (r : Fin 1024) (d : Fin 128), y = ix3 0 r d :=
    ⟨y 1, y 2, by funext a; fin_cases a; · exact Subsingleton.elim (α := Fin 1) _ _
                  · rfl
                  · rfl⟩
  rw [hu r d]
  refine congrArg G (funext fun a => Fin.ext ?_)
  refine Eq.trans ?_ (ValueKit.rect_emb_unit_val (s := S8x1024x128) ![k.val, 0, 0] S1x1024x128.size inb (ix3 0 r d) a).symm
  fin_cases a
  · rfl
  · exact (Nat.zero_add _).symm
  · exact (Nat.zero_add _).symm

/-- The pieces written, read back: the eight heads. -/
theorem assemble (arg : Memref sig .tc .vmem S8x1024x128 .bf16) (f : BufTy.Contents (Elt Ideal) arg.view.ty)
    {u0 u1 u2 u3 u4 u5 u6 u7 : S1x1024x128.Idx → EReal} (h0 : Piece G 0 u0) (h1 : Piece G 1 u1) (h2 : Piece G 2 u2) (h3 : Piece G 3 u3)
    (h4 : Piece G 4 u4) (h5 : Piece G 5 u5) (h6 : Piece G 6 u6) (h7 : Piece G 7 u7) :
    arg.view.read (Elt Ideal) (arg.view.writes (Elt Ideal) f
      [⟨Rect.unit (s := S8x1024x128) ![7, 0, 0] S1x1024x128.size inb_S8x1024x128_S1x1024x128_7_0_0, u7⟩,
        ⟨Rect.unit (s := S8x1024x128) ![6, 0, 0] S1x1024x128.size inb_S8x1024x128_S1x1024x128_6_0_0, u6⟩,
        ⟨Rect.unit (s := S8x1024x128) ![5, 0, 0] S1x1024x128.size inb_S8x1024x128_S1x1024x128_5_0_0, u5⟩,
        ⟨Rect.unit (s := S8x1024x128) ![4, 0, 0] S1x1024x128.size inb_S8x1024x128_S1x1024x128_4_0_0, u4⟩,
        ⟨Rect.unit (s := S8x1024x128) ![3, 0, 0] S1x1024x128.size inb_S8x1024x128_S1x1024x128_3_0_0, u3⟩,
        ⟨Rect.unit (s := S8x1024x128) ![2, 0, 0] S1x1024x128.size inb_S8x1024x128_S1x1024x128_2_0_0, u2⟩,
        ⟨Rect.unit (s := S8x1024x128) ![1, 0, 0] S1x1024x128.size inb_S8x1024x128_S1x1024x128_1_0_0, u1⟩,
        ⟨Rect.unit (s := S8x1024x128) ![0, 0, 0] S1x1024x128.size inb_S8x1024x128_S1x1024x128_0_0_0, u0⟩]) = G := by
  funext y
  refine View.read_writes_apply_of_pieces arg.view f G _ ?_ y ?_
  · simp only [List.forall_mem_cons]
    exact ⟨piece_ok h7 rfl _, piece_ok h6 rfl _, piece_ok h5 rfl _, piece_ok h4 rfl _, piece_ok h3 rfl _, piece_ok h2 rfl _,
      piece_ok h1 rfl _, piece_ok h0 rfl _, fun _ h => absurd h List.not_mem_nil⟩
  · have hmem : ∀ (o : ℕ) (inb : ∀ a, (![o, 0, 0] : Fin 3 → ℕ) a + S1x1024x128.size a ≤ S8x1024x128.size a),
        (y 0).val = o → y ∈ (Rect.unit (s := S8x1024x128) ![o, 0, 0] S1x1024x128.size inb).set := fun o inb ho => by
      rw [Rect.mem_set_unit]
      intro a
      fin_cases a
      · exact ⟨show o ≤ (y 0).val by omega, show (y 0).val < o + 1 by omega⟩
      · exact ⟨Nat.zero_le _, by have := (y 1).isLt; show (y 1).val < 0 + 1024; simpa using this⟩
      · exact ⟨Nat.zero_le _, by have := (y 2).isLt; show (y 2).val < 0 + 128; simpa using this⟩
    have hy : (y 0).val < 8 := (y 0).isLt
    obtain ⟨t, ht⟩ : ∃ t, (y 0).val = t := ⟨_, rfl⟩
    rw [ht] at hy
    simp only [List.mem_cons, or_and_right, exists_or, exists_eq_left]
    interval_cases t
    · exact Or.inr (Or.inr (Or.inr (Or.inr (Or.inr (Or.inr (Or.inr (Or.inl (hmem _ _ ht))))))))
    · exact Or.inr (Or.inr (Or.inr (Or.inr (Or.inr (Or.inr (Or.inl (hmem _ _ ht)))))))
    · exact Or.inr (Or.inr (Or.inr (Or.inr (Or.inr (Or.inl (hmem _ _ ht))))))
    · exact Or.inr (Or.inr (Or.inr (Or.inr (Or.inl (hmem _ _ ht)))))
    · exact Or.inr (Or.inr (Or.inr (Or.inl (hmem _ _ ht))))
    · exact Or.inr (Or.inr (Or.inl (hmem _ _ ht)))
    · exact Or.inr (Or.inl (hmem _ _ ht))
    · exact Or.inl (hmem _ _ ht)

section Whole

variable {a b : ℕ} {e : EltTy}

/-- A load of all of an array is the array. -/
theorem whole_ld (X : (⟨2, ![a, b]⟩ : Shape).Idx → Elt Ideal e) (inb : ∀ i, (![0, 0] : Fin 2 → ℕ) i + (⟨2, ![a, b]⟩ : Shape).size i ≤ (⟨2, ![a, b]⟩ : Shape).size i) :
    View.ld (Val := Elt Ideal) (e' := e) X (Rect.unit (s := ⟨2, ![a, b]⟩) ![0, 0] (⟨2, ![a, b]⟩ : Shape).size inb) = X := by
  funext y
  refine congrArg X (funext fun i => Fin.ext ?_)
  refine (ValueKit.rect_emb_unit_val _ _ inb y i).trans ?_
  fin_cases i <;> exact Nat.zero_add _

/-- The whole of a buffer, loaded. -/
theorem load_whole (arg : Memref sig .tc .vmem ⟨2, ![a, b]⟩ e) {X : BufTy.Contents (Elt Ideal) arg.view.ty} {x : (⟨2, ![a, b]⟩ : Shape).Idx → Elt Ideal e}
    (hX : arg.view.read (Elt Ideal) X = x) {inb : ∀ i, (![0, 0] : Fin 2 → ℕ) i + (⟨2, ![a, b]⟩ : Shape).size i ≤ (⟨2, ![a, b]⟩ : Shape).size i} :
    View.readAt (Elt Ideal) arg.view (Rect.unit (s := ⟨2, ![a, b]⟩) ![0, 0] (⟨2, ![a, b]⟩ : Shape).size inb).toLoadRect X = x := by
  subst hX
  exact whole_ld _ inb

/-- After a write of the whole, reading gives what was written. -/
theorem read_whole (arg : Memref sig .tc .vmem ⟨2, ![a, b]⟩ e) (f : BufTy.Contents (Elt Ideal) arg.view.ty)
    (inb : ∀ i, (![0, 0] : Fin 2 → ℕ) i + (⟨2, ![a, b]⟩ : Shape).size i ≤ (⟨2, ![a, b]⟩ : Shape).size i) (w : (⟨2, ![a, b]⟩ : Shape).Idx → Elt Ideal e)
    (L : List (View.Piece (Elt Ideal) ⟨2, ![a, b]⟩ e)) :
    arg.view.read (Elt Ideal) (arg.view.writes (Elt Ideal) f (⟨Rect.unit (s := ⟨2, ![a, b]⟩) ![0, 0] (⟨2, ![a, b]⟩ : Shape).size inb, w⟩ :: L)) = w := by
  have h : View.ld (Val := Elt Ideal) (e' := e) (arg.view.read (Elt Ideal)
      (arg.view.writes (Elt Ideal) f (⟨Rect.unit (s := ⟨2, ![a, b]⟩) ![0, 0] (⟨2, ![a, b]⟩ : Shape).size inb, w⟩ :: L)))
      (Rect.unit (s := ⟨2, ![a, b]⟩) ![0, 0] (⟨2, ![a, b]⟩ : Shape).size inb) = w :=
    funext fun y => View.read_writes_cons_emb arg.view f (Rect.unit (s := ⟨2, ![a, b]⟩) ![0, 0] (⟨2, ![a, b]⟩ : Shape).size inb) w L y
  rwa [whole_ld] at h

end Whole

/-- 256 rows of the weights, loaded. -/
theorem rows_load (arg : Memref sig .tc .vmem S1024x2048 .bf16) {X : BufTy.Contents (Elt Ideal) arg.view.ty} {W : S1024x2048.Idx → EReal}
    (hX : arg.view.read (Elt Ideal) X = W) (k0 : Fin 4) {off : Fin 2 → ℕ} (hoff : off = ![256 * k0.val, 0])
    {inb : ∀ a, off a + S256x2048.size a ≤ S1024x2048.size a} (n : Fin 256) (l : Fin 2048) :
    View.readAt (Elt Ideal) arg.view (Rect.unit (s := S1024x2048) off S256x2048.size inb).toLoadRect X (ix2 n l) = W (ix2 ⟨256 * k0.val + n.val, by omega⟩ l) := by
  subst hX hoff
  refine congrArg (arg.view.read (Elt Ideal) X) (funext fun a => Fin.ext ?_)
  refine (ValueKit.rect_emb_unit_val _ _ inb (ix2 n l) a).trans ?_
  fin_cases a
  · rfl
  · exact Nat.zero_add _

section Pieces

variable {j : Fin 5} {B W : Vec Ideal S1024x2048 .bf16} {CO SI : Vec Ideal S1024x128 .f32}

/-- The first head of a pair, as stored. -/
theorem left_piece (k0 : Fin 4) {b : Vec Ideal S1024x2048 .bf16} (hb : b = B) {w : Vec Ideal S256x2048 .bf16}
    (hw : ∀ n l, w (ix2 n l) = W (ix2 ⟨256 * k0.val + n.val, by omega⟩ l)) {co si : Vec Ideal S1024x128 .f32} (hc : co = CO) (hs : si = SI) :
    Piece (heads j B W CO SI) ⟨2 * k0.val, by omega⟩ (head (headWord j (BitVec.ofNat 32 (2 * k0.val)) 0#32)
      (extractStridedSlice S1024x128 ![0, 0] (pair b w) slices_S1024x256_o0_0_S1024x128) co si) := by
  subst hb hc hs
  exact left_at j k0 b W w co si hw

/-- The second head of a pair, as stored. -/
theorem right_piece (k0 : Fin 4) {b : Vec Ideal S1024x2048 .bf16} (hb : b = B) {w : Vec Ideal S256x2048 .bf16}
    (hw : ∀ n l, w (ix2 n l) = W (ix2 ⟨256 * k0.val + n.val, by omega⟩ l)) {co si : Vec Ideal S1024x128 .f32} (hc : co = CO) (hs : si = SI) :
    Piece (heads j B W CO SI) ⟨2 * k0.val + 1, by omega⟩ (head (headWord j (BitVec.ofNat 32 (2 * k0.val)) 1#32)
      (extractStridedSlice S1024x128 ![0, 128] (pair b w) slices_S1024x256_o0_128_S1024x128) co si) := by
  subst hb hc hs
  exact right_at j k0 b W w co si hw

end Pieces

/-- The activations as kept. -/
def kept (x : Vec Ideal S1024x2048 .f32) : FVec Ideal S1024x2048 .bf16 :=
  truncf (F := Ideal) .bf16 (x : FVec Ideal S1024x2048 .f32) bitsLt_bf16_f32

/-- Keeping casts and lays out the same rows. -/
theorem keep_eq {x y : Vec Ideal S1024x2048 .f32} (h : y = x) :
    (shapeCast S1024x2048 (truncf (F := Ideal) .bf16 (y : FVec Ideal S1024x2048 .f32) bitsLt_bf16_f32) shapeCasts_S1024x2048_S1024x2048 : FVec Ideal S1024x2048 .bf16) = kept x := by
  subst h
  funext p
  pointwise [kept]

/-- The gates, from equal operands. -/
theorem gates_eq {b b' : Vec Ideal S1024x2048 .bf16} (hb : b = b') {w w' : Vec Ideal S256x2048 .bf16} (hw : w = w') {g g' : Vec Ideal S1x256 .f32} (hg : g = g') :
    gates b w g = gates b' w' g' := by
  subst hb hw hg
  rfl

end InP

end
-- ==== Proof.InRun.lean ====
module

public import proofs.«01_k».proof.Proof.InPiece
public import Idealize.ShloMosaic.Lib.Claim

@[expose] public section

/-!
# One run of the projection's body

At every grid point the body leaves the eight heads of its block in the first output.  At the first head
block of a row block it keeps the activations and writes the gates; at the others it finds the activations
kept and the gates written.
-/

set_option maxRecDepth 16384

noncomputable section

namespace InP

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

/-- The first head block of a row block, where the activations are kept and the gates written. -/
abbrev cond0_0 (i : grid0.Coords) : Prop := k0_cond1 i = 1#1

set_option maxHeartbeats 2000000 in
/-- The body at any grid point: the eight heads, the gates, and the activations kept. -/
theorem run_body (c : Dev nD) (i : grid0.Coords) (arg2 : Memref sig .tc .vmem S1024x2048 .f32) (harg2 : arg2.IsWhole)
    (arg3 : Memref sig .tc .vmem S1024x2048 .bf16) (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S256x2048 .bf16) (harg6 : arg6.IsWhole)
    (arg7 : Memref sig .tc .vmem S1x256 .f32) (harg7 : arg7.IsWhole) (arg8 : Memref sig .tc .vmem S8x1024x128 .bf16) (harg8 : arg8.IsWhole)
    (arg9 : Memref sig .tc .vmem S1024x256 .f32) (harg9 : arg9.IsWhole) (arg10 : Memref sig .tc .vmem S1024x2048 .bf16) (harg10 : arg10.IsWhole)
    (x0 : Vec Ideal S1024x2048 .f32) (x1 : Vec Ideal S1024x2048 .bf16) (x2 x3 : Vec Ideal S1024x128 .f32)
    (x4 : Vec Ideal S256x2048 .bf16) (x5 : Vec Ideal S1x256 .f32)
    (g : Vec Ideal S1024x256 .f32) (xs : Vec Ideal S1024x2048 .bf16)
    (hg : ¬cond0_0 i → g = gates (kept x0) x4 x5) (hxs : ¬cond0_0 i → xs = kept x0) :
    ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare g ∗ owns (c : Thread nD τ) arg10 fullShare xs
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4 ∗ owns (c : Thread nD τ) arg7 fullShare x5
              ∗ owns (c : Thread nD τ) arg8 fullShare (heads (i 1) (kept x0) x1 x2 x3) ∗ owns (c : Thread nD τ) arg9 fullShare (gates (kept x0) x4 x5)
              ∗ owns (c : Thread nD τ) arg10 fullShare (kept x0)) -∗ K ⟨⟩))
          ⊢ wp frame (wpE (defs₀ (F := Ideal)) Variants.none c none) E (cc0_in_proj i arg2 harg2 arg3 harg3 arg4 harg4 arg5 harg5 arg6 harg6 arg7 harg7 arg8 harg8 arg9 harg9 arg10 harg10) K := by
  intro E K
  by_cases hc0 : cond0_0 i
  all_goals
    unfold cc0_in_proj
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      have hW := harg3.read_unread (Val := Elt Ideal) x1
      have hC := load_whole arg4 (harg4.read_unread (Val := Elt Ideal) x2) (inb := inb_S1024x128_S1024x128_0_0)
      have hS := load_whole arg5 (harg5.read_unread (Val := Elt Ideal) x3) (inb := inb_S1024x128_S1024x128_0_0)
      first
        | have hX := hxs hc0
          have hB := load_whole arg10 (hs0.trans hX) (inb := inb_S1024x2048_S1024x2048_0_0)
          exact assemble arg8 _ (left_piece 0 hB (rows_load arg3 hW 0 rfl) hC hS) (right_piece 0 hB (rows_load arg3 hW 0 rfl) hC hS)
            (left_piece 1 hB (rows_load arg3 hW 1 rfl) hC hS) (right_piece 1 hB (rows_load arg3 hW 1 rfl) hC hS)
            (left_piece 2 hB (rows_load arg3 hW 2 rfl) hC hS) (right_piece 2 hB (rows_load arg3 hW 2 rfl) hC hS)
            (left_piece 3 hB (rows_load arg3 hW 3 rfl) hC hS) (right_piece 3 hB (rows_load arg3 hW 3 rfl) hC hS)
        | have hB := load_whole arg10 ((read_whole arg10 arg10.view.junk inb_S1024x2048_S1024x2048_0_0 _ []).trans
            (keep_eq (load_whole arg2 (harg2.read_unread (Val := Elt Ideal) x0) (inb := inb_S1024x2048_S1024x2048_0_0)))) (inb := inb_S1024x2048_S1024x2048_0_0)
          exact assemble arg8 _ (left_piece 0 hB (rows_load arg3 hW 0 rfl) hC hS) (right_piece 0 hB (rows_load arg3 hW 0 rfl) hC hS)
            (left_piece 1 hB (rows_load arg3 hW 1 rfl) hC hS) (right_piece 1 hB (rows_load arg3 hW 1 rfl) hC hS)
            (left_piece 2 hB (rows_load arg3 hW 2 rfl) hC hS) (right_piece 2 hB (rows_load arg3 hW 2 rfl) hC hS)
            (left_piece 3 hB (rows_load arg3 hW 3 rfl) hC hS) (right_piece 3 hB (rows_load arg3 hW 3 rfl) hC hS)
    isplitl [H7]
    · iexists _; isplitr; swap; · iexact H7
      ipureintro
      first
        | have hG := hg hc0
          exact hf7.trans hG
        | exact (read_whole arg9 _ _ _ _).trans (gates_eq (load_whole arg10 ((read_whole arg10 arg10.view.junk _ _ []).trans (keep_eq (load_whole arg2 (harg2.read_unread (Val := Elt Ideal) x0)))))
            (load_whole arg6 (harg6.read_unread (Val := Elt Ideal) x4)) (load_whole arg7 (harg7.read_unread (Val := Elt Ideal) x5)))
    iexists _; isplitr; swap; · iexact HS0
    ipureintro
    first
      | have hX := hxs hc0
        exact hs0.trans hX
      | exact (read_whole arg10 _ _ _ _).trans (keep_eq (load_whole arg2 (harg2.read_unread (Val := Elt Ideal) x0)))

end InP

end
-- ==== Proof.InFrame.lean ====
module

public import proofs.«01_k».proof.Proof.InRun
public import Idealize.ShloMosaic.Lib.Claim
public import Idealize.ShloMosaic.Lib.Pipeline.Value
public import Idealize.ShloMosaic.Lib.Pipeline.TableIdle
public import Idealize.ShloMosaic.Lib.Pipeline.ValueKit

@[expose] public section

/-!
# The projection into heads, launched

The grid runs over the row blocks and, within each, over the five head blocks.  After every point the first
output's block holds the point's eight heads, and the second output's block the gates of the row block,
written at the first head block and kept to the last.
-/

set_option maxRecDepth 16384

noncomputable section

namespace InP

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The staging buffers of the windows at a point, and the scratch that keeps the activations. -/
abbrev ms0_0 (t : Fin cfg0.N) : Memref sig .tc .vmem S1024x2048 .f32 := win0_0.stage (cfg0.slots t 0)
/-- The staging buffer of the second window at a point. -/
abbrev ms0_1 (t : Fin cfg0.N) : Memref sig .tc .vmem S1024x2048 .bf16 := win0_1.stage (cfg0.slots t 1)
/-- The staging buffer of the third window at a point. -/
abbrev ms0_2 (t : Fin cfg0.N) : Memref sig .tc .vmem S1024x128 .f32 := win0_2.stage (cfg0.slots t 2)
/-- The staging buffer of the fourth window at a point. -/
abbrev ms0_3 (t : Fin cfg0.N) : Memref sig .tc .vmem S1024x128 .f32 := win0_3.stage (cfg0.slots t 3)
/-- The staging buffer of the fifth window at a point. -/
abbrev ms0_4 (t : Fin cfg0.N) : Memref sig .tc .vmem S256x2048 .bf16 := win0_4.stage (cfg0.slots t 4)
/-- The staging buffer of the sixth window at a point. -/
abbrev ms0_5 (t : Fin cfg0.N) : Memref sig .tc .vmem S1x256 .f32 := win0_5.stage (cfg0.slots t 5)
/-- The staging buffer of the seventh window at a point. -/
abbrev ms0_6 (t : Fin cfg0.N) : Memref sig .tc .vmem S8x1024x128 .bf16 := win0_6.stage (cfg0.slots t 6)
/-- The staging buffer of the eighth window at a point. -/
abbrev ms0_7 (t : Fin cfg0.N) : Memref sig .tc .vmem S1024x256 .f32 := win0_7.stage (cfg0.slots t 7)
/-- The buffer that keeps the narrowed rows between points. -/
abbrev scM0_0 : Memref sig .tc .vmem S1024x2048 .bf16 := Memref.whole cc0_scratch0

/-- What the body holds besides the windows. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- Before position `n`: the scratch at the activations of the point before, once a point has run. -/
def PhiS (c : Dev nD) : ℕ → sProp 𝕄
  | 0 => Pipeline.ΦA spec0 c
  | n + 1 => iprop((∃ xs : Vec Ideal S1024x2048 .bf16, ⌜∀ h : n < cfg0.N, xs = kept (iblk m c 0 ⟨n, h⟩)⌝ ∗ owns (c : Thread nD τ) scM0_0 fullShare xs) ∗ (∃ r, prngReg c r))

/-- The heads a point leaves. -/
abbrev headsAt (c : Dev nD) (t : Fin cfg0.N) : Vec Ideal S8x1024x128 .bf16 :=
  heads ((grid0.coords t) 1) (kept (iblk m c 0 t)) (X0_1 m c t) (iblk m c 2 t) (iblk m c 3 t)

/-- The gates a point leaves. -/
abbrev gatesAt (c : Dev nD) (t : Fin cfg0.N) : Vec Ideal S1024x256 .f32 :=
  gates (kept (iblk m c 0 t)) (iblk m c 4 t) (iblk m c 5 t)

/-- After the body at `t` the inputs are at their blocks, the outputs at the heads and the gates. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => headsAt m c t
    | ⟨7, _⟩ => gatesAt m c t
  Φ t := PhiS m c t.val
  q _ := fullShare
  owed _ := 0

/-- The arrays the windows read and write are the launched ones. -/
theorem A_eq (c : Dev nD) (w : Fin cfg0.W) : (dats m 0 c).A w = V m c (Pipeline.arrRef spec0 w) := by
  dsimp only [dats]

/-- What the first window holds after a point. -/
theorem after0_0 (c : Dev nD) (t : Fin cfg0.N) : (dats m 0 c).after 0 t = iblk m c 0 t := by dsimp only [dats]
/-- What the second window holds after a point. -/
theorem after0_1 (c : Dev nD) (t : Fin cfg0.N) : (dats m 0 c).after 1 t = X0_1 m c t := by dsimp only [dats]
/-- What the third window holds after a point. -/
theorem after0_2 (c : Dev nD) (t : Fin cfg0.N) : (dats m 0 c).after 2 t = iblk m c 2 t := by dsimp only [dats]
/-- What the fourth window holds after a point. -/
theorem after0_3 (c : Dev nD) (t : Fin cfg0.N) : (dats m 0 c).after 3 t = iblk m c 3 t := by dsimp only [dats]
/-- What the fifth window holds after a point. -/
theorem after0_4 (c : Dev nD) (t : Fin cfg0.N) : (dats m 0 c).after 4 t = iblk m c 4 t := by dsimp only [dats]
/-- What the sixth window holds after a point. -/
theorem after0_5 (c : Dev nD) (t : Fin cfg0.N) : (dats m 0 c).after 5 t = iblk m c 5 t := by dsimp only [dats]
/-- What the seventh window holds after a point. -/
theorem after0_6 (c : Dev nD) (t : Fin cfg0.N) : (dats m 0 c).after 6 t = headsAt m c t := by dsimp only [dats]
/-- What the eighth window holds after a point. -/
theorem after0_7 (c : Dev nD) (t : Fin cfg0.N) : (dats m 0 c).after 7 t = gatesAt m c t := by dsimp only [dats]

/-- What the first window holds before a point. -/
theorem before0_0 (c : Dev nD) (t : Fin cfg0.N) (d) : (dats m 0 c).before 0 t d = iblk m c 0 t :=
  before0_0_of m (dats m 0 c) (A_eq m c 0) (after0_0 m c) t d
/-- What the second window holds before a point. -/
theorem before0_1 (c : Dev nD) (t : Fin cfg0.N) (d) : (dats m 0 c).before 1 t d = X0_1 m c t :=
  before0_1_of m (dats m 0 c) (A_eq m c 1) (after0_1 m c) t d
/-- What the third window holds before a point. -/
theorem before0_2 (c : Dev nD) (t : Fin cfg0.N) (d) : (dats m 0 c).before 2 t d = iblk m c 2 t :=
  before0_2_of m (dats m 0 c) (A_eq m c 2) (after0_2 m c) t d
/-- What the fourth window holds before a point. -/
theorem before0_3 (c : Dev nD) (t : Fin cfg0.N) (d) : (dats m 0 c).before 3 t d = iblk m c 3 t :=
  before0_3_of m (dats m 0 c) (A_eq m c 3) (after0_3 m c) t d
/-- What the fifth window holds before a point. -/
theorem before0_4 (c : Dev nD) (t : Fin cfg0.N) (d) : (dats m 0 c).before 4 t d = iblk m c 4 t :=
  before0_4_of m (dats m 0 c) (A_eq m c 4) (after0_4 m c) t d
/-- What the sixth window holds before a point. -/
theorem before0_5 (c : Dev nD) (t : Fin cfg0.N) (d) : (dats m 0 c).before 5 t d = iblk m c 5 t :=
  before0_5_of m (dats m 0 c) (A_eq m c 5) (after0_5 m c) t d

/-- The arguments: activations, weights, angles' cosines and sines, gate weights and gate biases. -/
abbrev argH (c : Dev nD) : Vec Ideal S8192x2048 .f32 := m ((c : Thread nD τ).loc main_arg0)
/-- The weights, as launched. -/
abbrev argW (c : Dev nD) : Vec Ideal S5150x2048 .bf16 := m ((c : Thread nD τ).loc main_arg1)
/-- The cosines, as launched. -/
abbrev argC (c : Dev nD) : Vec Ideal S8192x128 .f32 := m ((c : Thread nD τ).loc main_arg2)
/-- The signed sines, as launched. -/
abbrev argS (c : Dev nD) : Vec Ideal S8192x128 .f32 := m ((c : Thread nD τ).loc main_arg3)
/-- The gates' weights, as launched. -/
abbrev argG (c : Dev nD) : Vec Ideal S256x2048 .bf16 := m ((c : Thread nD τ).loc main_arg4)
/-- The gates' biases, as launched. -/
abbrev argB (c : Dev nD) : Vec Ideal S1x256 .f32 := m ((c : Thread nD τ).loc main_arg5)

/-- The rows are narrowed and the gates computed at the first of five points. -/
theorem cond_iff : ∀ t : Fin cfg0.N, cond0_0 (grid0.coords t) ↔ t.val % 5 = 0 := (by decide +kernel : ∀ t : Fin grid0.N, _)

/-- Where each window's block lies. -/
theorem idx : ∀ t : Fin cfg0.N, win0_0.index t = ![t.val / 5, 0] ∧ win0_1.index t = ![t.val % 5, 0] ∧
    win0_2.index t = ![t.val / 5, 0] ∧ win0_3.index t = ![t.val / 5, 0] ∧ win0_4.index t = ![0, 0] ∧
    win0_5.index t = ![0, 0] ∧ win0_6.index t = ![t.val % 5, t.val / 5, 0] ∧ win0_7.index t = ![t.val / 5, 0] ∧
    t.val < 40 ∧ ((grid0.coords t) 1).val = t.val % 5 :=
  (by decide +kernel : ∀ t : Fin grid0.N, _)

/-- The activations at row `r` of row block `b`. -/
theorem blk_h (c : Dev nD) (t : Fin cfg0.N) (r : Fin 1024) (k : Fin 2048) :
    (iblk m c 0 t : Vec Ideal S1024x2048 .f32) (ix2 r k) = argH m c (ix2 ⟨1024 * (t.val / 5) + r.val, by have := (idx t).2.2.2.2.2.2.2.2.1; omega⟩ k) := by
  blk_ext [iblk, V, idx t]

/-- The weights of head block `t % 5`. -/
theorem blk_w (c : Dev nD) (t : Fin cfg0.N) (n : Fin 1024) (k : Fin 2048) :
    (X0_1 m c t : Vec Ideal S1024x2048 .bf16) (ix2 n k) = argW m c (ix2 ⟨1024 * (t.val % 5) + n.val, by omega⟩ k) := by
  unfold X0_1 Pipeline.Window.fill
  rw [dif_pos (moved0_1 t _)]
  blk_ext [iblk, V, idx t]

/-- The cosines that a point reads. -/
theorem blk_c (c : Dev nD) (t : Fin cfg0.N) (r : Fin 1024) (k : Fin 128) :
    (iblk m c 2 t : Vec Ideal S1024x128 .f32) (ix2 r k) = argC m c (ix2 ⟨1024 * (t.val / 5) + r.val, by have := (idx t).2.2.2.2.2.2.2.2.1; omega⟩ k) := by
  blk_ext [iblk, V, idx t]

/-- The sines that a point reads. -/
theorem blk_s (c : Dev nD) (t : Fin cfg0.N) (r : Fin 1024) (k : Fin 128) :
    (iblk m c 3 t : Vec Ideal S1024x128 .f32) (ix2 r k) = argS m c (ix2 ⟨1024 * (t.val / 5) + r.val, by have := (idx t).2.2.2.2.2.2.2.2.1; omega⟩ k) := by
  blk_ext [iblk, V, idx t]

/-- The gates' weights that a point reads. -/
theorem blk_gw (c : Dev nD) (t : Fin cfg0.N) (n : Fin 256) (k : Fin 2048) :
    (iblk m c 4 t : Vec Ideal S256x2048 .bf16) (ix2 n k) = argG m c (ix2 n k) := by
  blk_ext [iblk, V, idx t]

/-- The gates' biases that a point reads. -/
theorem blk_gb (c : Dev nD) (t : Fin cfg0.N) (n : Fin 256) :
    (iblk m c 5 t : Vec Ideal S1x256 .f32) (ix2 0 n) = argB m c (ix2 0 n) := by
  blk_ext [iblk, V, idx t]

/-- Within a row block the activations' block is the same at every head block. -/
theorem blk_h_same (c : Dev nD) (t s : Fin cfg0.N) (h : s.val / 5 = t.val / 5) :
    (iblk m c 0 s : Vec Ideal S1024x2048 .f32) = iblk m c 0 t := by
  funext y
  obtain ⟨r, k, rfl⟩ : ∃ (r : Fin 1024) (k : Fin 2048), y = ix2 r k := ⟨y 0, y 1, eq_ix2 y⟩
  rw [blk_h, blk_h]
  refine congrArg (fun n => argH m c (ix2 n k)) (Fin.ext ?_)
  simp only [h]

/-- All points read the same weights of the gates, -/
theorem blk_gw_same (c : Dev nD) (t s : Fin cfg0.N) : (iblk m c 4 s : Vec Ideal S256x2048 .bf16) = iblk m c 4 t := by
  funext y
  obtain ⟨r, k, rfl⟩ : ∃ (r : Fin 256) (k : Fin 2048), y = ix2 r k := ⟨y 0, y 1, eq_ix2 y⟩
  rw [blk_gw, blk_gw]

/-- and the same biases. -/
theorem blk_gb_same (c : Dev nD) (t s : Fin cfg0.N) : (iblk m c 5 s : Vec Ideal S1x256 .f32) = iblk m c 5 t := by
  funext y
  have hy : y = (ix2 0 (y 1 : Fin 256) : S1x256.Idx) := by
    funext a
    fin_cases a
    · exact Subsingleton.elim (α := Fin 1) _ _
    · rfl
  rw [hy]
  exact (blk_gb m c s (y 1)).trans (blk_gb m c t (y 1)).symm

/-- The gates are those of the point before, within a row block. -/
theorem gates_same (c : Dev nD) (t s : Fin cfg0.N) (h : s.val / 5 = t.val / 5) : gatesAt m c s = gatesAt m c t :=
  gates_eq (congrArg kept (blk_h_same m c t s h)) (blk_gw_same m c t s) (blk_gb_same m c t s)

/-- The gates' window is idle but at the first of five points, -/
theorem idle_iff : ∀ t : Fin cfg0.N, cfg0.idle 7 (cfg0.grid.coords t) = true ↔ ¬t.val % 5 = 0 := by decide +kernel

/-- where it is not new either. -/
theorem fresh_past : ∀ t : Fin cfg0.N, ¬t.val % 5 = 0 → cfg0.fresh 7 t.val = false := by decide +kernel

/-- Past the first head block, the second output's buffer still holds the gates. -/
theorem before0_7 (c : Dev nD) (t : Fin cfg0.N) (h0 : ¬t.val % 5 = 0) (d) : (dats m 0 c).before 7 t d = gatesAt m c t := by
  rw [(dats m 0 c).before_out_traj 7 rfl (fun _ _ => rfl) (fun s hs hi _ => by
    have h5 := (idle_iff s).mp hi
    rw [after0_7, after0_7]
    exact (gates_same m c s _ (by dsimp only; omega)).symm) t.val t rfl d, fresh_past t h0, after0_7]
  exact gates_same m c t _ (by dsimp only; omega)

/-- Before any point the scratch holds something, and past the first head block the activations. -/
theorem Phi_in (c : Dev nD) (t : Fin cfg0.N) :
    PhiS m c t.val ⊢ iprop((∃ xs : Vec Ideal S1024x2048 .bf16, ⌜¬cond0_0 (grid0.coords t) → xs = kept (iblk m c 0 t)⌝ ∗ owns (c : Thread nD τ) scM0_0 fullShare xs)
      ∗ (∃ r, prngReg c r)) := by
  rcases Nat.eq_zero_or_pos t.val with h | h
  · rw [h, show PhiS m c 0 = Pipeline.ΦA spec0 c from rfl, PhiA0_eq]
    iintro ⟨⟨%xs, HS0⟩, Hg⟩
    isplitl [HS0]
    · iexists xs
      isplitr
      · ipureintro; exact fun hc => absurd ((cond_iff t).mpr (by rw [h])) hc
      iexact HS0
    iexact Hg
  · obtain ⟨n, hn⟩ := Nat.exists_eq_succ_of_ne_zero h.ne'
    rw [hn, PhiS]
    iintro ⟨⟨%xs, %hx, HS0⟩, Hg⟩
    isplitl [HS0]
    · iexists xs
      isplitr
      · ipureintro
        intro hc
        have h5 : ¬t.val % 5 = 0 := fun h' => hc ((cond_iff t).mpr h')
        have hlt : n < cfg0.N := by have := t.isLt; omega
        exact (hx hlt).trans (congrArg kept (blk_h_same m c t ⟨n, hlt⟩ (by dsimp only; omega)))
      iexact HS0
    iexact Hg

/-- What is said of the second output's buffer after a point: the gates where it is written or written back,
    else what was found there. -/
def post7 (c : Dev nD) (t : Fin cfg0.N) : sProp 𝕄 :=
  match cfg0.idle 7 (cfg0.grid.coords t) with
  | true =>
    match (cfg0.win 7).flush t with
    | false => iprop(∃ d, owns (c : Thread nD τ) (ms0_7 t) fullShare ((dats m 0 c).before 7 t d))
    | true => owns (c : Thread nD τ) (ms0_7 t) fullShare ((dats m 0 c).after 7 t)
  | false => owns (c : Thread nD τ) (ms0_7 t) fullShare ((dats m 0 c).after 7 t)

/-- The gates are what is to be said. -/
theorem post7_of (c : Dev nD) (t : Fin cfg0.N) : owns (c : Thread nD τ) (ms0_7 t) fullShare (gatesAt m c t) ⊢ post7 m c t := by
  unfold post7
  split
  · rename_i hi
    split
    · iintro H
      iexists gatesAt m c t
      rw [before0_7 m c t ((idle_iff t).mp hi)]
      iexact H
    · rw [after0_7]
  · rw [after0_7]

/-- What the body at point `t` is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ (∃ d, owns (c : Thread nD τ) (ms0_1 t) fullShare (win0_1.fill (cfg0.grid.coords t) d (win0_1.cut (cfg0.grid.coords t) ((dats m 0 c).after 1 t))))
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ post7 m c t)

set_option maxHeartbeats 2000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) from rfl, PhiS, show (dats m 0 c).Φ t.castSucc = PhiS m c t.val from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HP' := (Phi_in m c t) $$ HP
  icases HP' with ⟨⟨%xs, %hxs, HS0⟩, Hg⟩
  iapply (run_body c (grid0.coords t) _ _ _ _ _ _ _ _ _ _ _ _ _ _ _ _ _ _ (iblk m c 0 t) (X0_1 m c t) (iblk m c 2 t) (iblk m c 3 t)
    (iblk m c 4 t) (iblk m c 5 t) _ xs
    (fun hc => before0_7 m c t (fun h => hc ((cond_iff t).mpr h)) d7) hxs Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  iintro ⟨H0, H1, H2, H3, H4, H5, H6, H7, HS0⟩
  isplitl [HS0 Hg]
  · isplitl [HS0]
    · iexists kept (iblk m c 0 t)
      isplitr
      · ipureintro; exact fun _ => rfl
      iexact HS0
    iexact Hg
  isplitl [Ho]; · iexact Ho
  isplitl [H0]; · iexact H0
  isplitl [H1]
  · iexists X0_1 m c t
    rw [Pipeline.Window.fill_cut]; iexact H1
  isplitl [H2]; · iexact H2
  isplitl [H3]; · iexact H3
  isplitl [H4]; · iexact H4
  isplitl [H5]; · iexact H5
  isplitl [H6]; · iexact H6
  iapply (post7_of m c t) $$ H7

/-- The body that is run at a point. -/
theorem defs₀_row (t : Fin cfg0.N) :
    defs₀ (F := Ideal) .tc cfg0.body (cfg0.bodyArgs t (cfg0.slots t)) = bodyAt0 t := by
  unfold defs₀; rw [Defs.onTc_tc]

set_option maxHeartbeats 2000000 in
/-- The body keeps its contract at every point. -/
theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

/-- The buffers as launched are the state before the first point. -/
theorem hin (c : Dev nD) : Pipeline.ΦA spec0 c ⊢ (dats m 0 c).Φ 0 := by
  rw [show (dats m 0 c).Φ 0 = Pipeline.ΦA spec0 c from rfl]

/-- The state after the last point gives the buffers back. -/
theorem hout (c : Dev nD) : (dats m 0 c).Φ (Fin.last cfg0.N) ⊢ Pipeline.ΦA spec0 c := by
  rw [show (dats m 0 c).Φ (Fin.last cfg0.N) = PhiS m c (Fin.last cfg0.N).val from rfl, show (Fin.last cfg0.N).val = 39 + 1 from N_0, PhiS, PhiA0_eq]
  iintro ⟨⟨%xs, -, HS0⟩, Hg⟩
  isplitl [HS0]
  · iexists _; iexact HS0
  iexact Hg

set_option backward.isDefEq.respectTransparency.types false in
/-- The launch, with every semaphore counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- Every run ends with the arrays as the points leave them. -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: every run ends, the arguments as launched. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

/-- The projected row of head `n`. -/
def row (c : Dev nD) (n : Fin 40) (r : Fin 8192) (e : Fin 128) : EReal :=
  ∑ l : Fin 2048, argH m c (ix2 r l) *
    argW m c (ix2 ⟨128 * n.val + e.val, by omega⟩ l)

/-- The heads as the whole array holds them. -/
def allHeads (c : Dev nD) : Vec Ideal S40x8192x128 .bf16 := fun y =>
  InMath.entry (y 0).val (row m c (y 0) (y 1)) (fun e => argC m c (ix2 (y 1) e))
    (fun e => argS m c (ix2 (y 1) e)) (y 2)

/-- The gates as the whole array holds them. -/
def allGates (c : Dev nD) : Vec Ideal S8192x256 .f32 := fun y =>
  Ideal.logistic ((∑ l : Fin 2048, argH m c (ix2 (y 0) l) *
    argG m c (ix2 (y 1) l)) + argB m c (ix2 0 (y 1)))

/-- One point's heads are their part of all heads. -/
theorem heads_point (c : Dev nD) (t : Fin cfg0.N) (k : Fin 8) (r : Fin 1024) (d : Fin 128)
    (h0 : 8 * (t.val % 5) + k.val < 40) (h1 : 1024 * (t.val / 5) + r.val < 8192) :
    headsAt m c t (ix3 k r d) = allHeads m c (ix3 ⟨8 * (t.val % 5) + k.val, h0⟩ ⟨1024 * (t.val / 5) + r.val, h1⟩ d) := by
  unfold headsAt heads allHeads
  have hp : projRow (kept (iblk m c 0 t)) (X0_1 m c t) r k = row m c ⟨8 * (t.val % 5) + k.val, h0⟩ ⟨1024 * (t.val / 5) + r.val, h1⟩ := by
    funext e
    unfold projRow row
    refine Finset.sum_congr rfl fun l _ => ?_
    rw [blk_w, show kept (iblk m c 0 t) (ix2 r l) = (iblk m c 0 t : Vec Ideal S1024x2048 .f32) (ix2 r l) from rfl, blk_h]
    refine congrArg _ (congrArg (fun n => argW m c (ix2 n l)) (Fin.ext ?_))
    dsimp only
    omega
  simp only [ix3_0, ix3_1, ix3_2, hp, blk_c, blk_s, (idx t).2.2.2.2.2.2.2.2.2]

/-- One point's gates are their part of all gates. -/
theorem gates_point (c : Dev nD) (t : Fin cfg0.N) (r : Fin 1024) (n : Fin 256) (h1 : 1024 * (t.val / 5) + r.val < 8192) :
    gatesAt m c t (ix2 r n) = allGates m c (ix2 ⟨1024 * (t.val / 5) + r.val, h1⟩ n) := by
  unfold gatesAt allGates
  rw [gates_at, blk_gb]
  refine congrArg Ideal.logistic (congrArg₂ (· + ·) (Finset.sum_congr rfl fun l _ => ?_) rfl)
  rw [blk_gw, show kept (iblk m c 0 t) (ix2 r l) = (iblk m c 0 t : Vec Ideal S1024x2048 .f32) (ix2 r l) from rfl, blk_h]
  rfl

/-- The first result holds all heads, -/
theorem heads_array (c : Dev nD) : (dats m 0 c).arrAt 6 cfg0.N = allHeads m c := by
  refine (dats m 0 c).arrAt_eq_of_covers 6 _ (by decide +kernel) fun t hf y => ?_
  blk_simp
  rw [after0_6]
  obtain ⟨k, r, d, rfl⟩ : ∃ (k : Fin 8) (r : Fin 1024) (d : Fin 128), y = ix3 k r d := ⟨y 0, y 1, y 2, eq_ix3 y⟩
  have hN : t.val < 40 := (idx t).2.2.2.2.2.2.2.2.1
  have hi : ((cfg0.win 6).blk t).view.emb (ix3 k r d) = (ix3 ⟨8 * (t.val % 5) + k.val, by omega⟩ ⟨1024 * (t.val / 5) + r.val, by omega⟩ d : S40x8192x128.Idx) := by
    blk_ext [idx t]
  rw [hi]
  exact heads_point m c t k r d _ _

/-- and the second all gates. -/
theorem gates_array (c : Dev nD) : (dats m 0 c).arrAt 7 cfg0.N = allGates m c := by
  refine (dats m 0 c).arrAt_eq_of_covers 7 _ (by decide +kernel) fun t hf y => ?_
  blk_simp
  rw [after0_7]
  obtain ⟨r, n, rfl⟩ : ∃ (r : Fin 1024) (n : Fin 256), y = ix2 r n := ⟨y 0, y 1, eq_ix2 y⟩
  have hN : t.val < 40 := (idx t).2.2.2.2.2.2.2.2.1
  have hi : ((cfg0.win 7).blk t).view.emb (ix2 r n) = (ix2 ⟨1024 * (t.val / 5) + r.val, by omega⟩ n : S8192x256.Idx) := by
    blk_ext [idx t]
  rw [hi]
  exact gates_point m c t r n _

/-- The run with its results named, and its arguments as launched. -/
theorem run_blocks : θ_run defs (onTc (τ := τ) (main (F := Ideal))) ⟨m, fun _ => 0, ρ⟩ fun r => ∀ c : Dev nD,
      r.2.mem ((c.tc : Thread nD τ).loc main_v0_0) = allHeads m c
      ∧ r.2.mem ((c.tc : Thread nD τ).loc main_v0_1) = allGates m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (heads_array m c), ((h.1 c).1 7).trans (gates_array m c), h.2.1 c⟩)
    (θ_run_and (run_main m ρ) (frame_ideal m ρ))

end InP

end
-- ==== Proof.InRef.lean ====
module

public import proofs.«01_k».proof.Proof.Gen.RefInProjIdeal.Run
public import Idealize.ShloMosaic.Lib.Pointwise
public import proofs.«01_k».proof.Proof.InMath
public import proofs.«01_k».proof.Proof.FfnMath

@[expose] public section

/-!
# What the plain input projection computes

One product with all weights, cut into heads; the queries and keys turned by their positions; the queries
divided by `√128 · log 2`; and the logistic function of a second product, with a bias.
-/

set_option maxRecDepth 16384

noncomputable section

namespace Cert.RefInProjIdeal.Own

open Cert.RefInProjIdeal Cert.RefInProjIdeal.Gen Cert.RefInProjIdeal.Value
open Idealize.ShloMosaic Idealize.ShloMosaic.TcCoe Idealize.SL.Sem

variable (m : (ℓ : Loc nD τ sig) → Buf (Elt Ideal) ℓ)

/-- The weights of the heads, input channels first. -/
def weights (w : FVec Ideal S5150x2048 .bf16) : FVec Ideal S2048x5120 .f32 :=
  transpose S2048x5120 [1, 0] (extf .f32 (extractStridedSlice S5120x2048 ![0, 0] w slices_S5150x2048_S5120x2048_0_0)
    bitsLt_bf16_f32) transposes_S5120x2048_S2048x5120_1_0

/-- All heads before turning and scaling. -/
def plain (h : FVec Ideal S8192x2048 .f32) (w : FVec Ideal S5150x2048 .bf16) : FVec Ideal S40x8192x128 .f32 :=
  transpose S40x8192x128 [1, 0, 2] (shapeCast _ (Host.dotGeneral dot_S8192x2048_S2048x5120_S8192x5120_1_0_0_1_n_n none h (weights w))
    shapeCasts_S8192x5120_S8192x40x128) transposes_S8192x40x128_S40x8192x128_1_0_2

/-- The first half of the channels. -/
def lower (x : FVec Ideal S40x8192x128 .f32) : FVec Ideal S40x8192x64 .f32 :=
  extractStridedSlice S40x8192x64 ![0, 0, 0] x slices_S40x8192x128_S40x8192x64_0_0_0

/-- The second half of the channels. -/
def upper (x : FVec Ideal S40x8192x128 .f32) : FVec Ideal S40x8192x64 .f32 :=
  extractStridedSlice S40x8192x64 ![0, 0, 64] x slices_S40x8192x128_S40x8192x64_0_0_64

/-- The first half of a table's columns, for every head. -/
def tableLower (a : FVec Ideal S8192x128 .f32) : FVec Ideal S40x8192x64 .f32 :=
  broadcastInDim S40x8192x64 ![0, 1, 2] bcast_S1x8192x64_S40x8192x64_0_1_2
    (broadcastInDim S1x8192x64 ![1, 2] bcast_S8192x64_S1x8192x64_1_2 (extractStridedSlice S8192x64 ![0, 0] a slices_S8192x128_S8192x64_0_0))

/-- The second half of a table's columns, for every head. -/
def tableUpper (a : FVec Ideal S8192x128 .f32) : FVec Ideal S40x8192x64 .f32 :=
  broadcastInDim S40x8192x64 ![0, 1, 2] bcast_S1x8192x64_S40x8192x64_0_1_2
    (broadcastInDim S1x8192x64 ![1, 2] bcast_S8192x64_S1x8192x64_1_2 (extractStridedSlice S8192x64 ![0, 64] a slices_S8192x128_S8192x64_0_64))

/-- All heads turned by their positions. -/
def turned (x : FVec Ideal S40x8192x128 .f32) (co si : FVec Ideal S8192x128 .f32) : FVec Ideal S40x8192x128 .f32 :=
  concatenate S40x8192x128 2
    [⟨S40x8192x64, addf (mulf (lower x) (tableLower co)) (mulf (upper x) (tableLower si))⟩,
     ⟨S40x8192x64, addf (mulf (upper x) (tableUpper co)) (mulf (lower x) (tableUpper si))⟩]
    concatenates_S40x8192x64_S40x8192x64_S40x8192x128_d2

/-- What the queries are divided by. -/
def divisor : FVec Ideal S_ .f32 := mulf (Host.sqrt (constant S_ .f32 0x43000000#32)) (Host.log (constant S_ .f32 0x40000000#32))

/-- The heads the layer goes on with: turned and scaled, turned, or plain, group by group. -/
def grouped (t x : FVec Ideal S40x8192x128 .f32) (s : FVec Ideal S_ .f32) : FVec Ideal S40x8192x128 .f32 :=
  concatenate S40x8192x128 0
    [⟨S6x8192x128, (Host.divf (extractStridedSlice S6x8192x128 ![0, 0, 0] t slices_S40x8192x128_S6x8192x128_0_0_0)
        (broadcastInDim S6x8192x128 ![] bcast_S_S6x8192x128 s) : FVec Ideal S6x8192x128 .f32)⟩,
     ⟨S6x8192x128, extractStridedSlice S6x8192x128 ![6, 0, 0] t slices_S40x8192x128_S6x8192x128_6_0_0⟩,
     ⟨S6x8192x128, extractStridedSlice S6x8192x128 ![12, 0, 0] x slices_S40x8192x128_S6x8192x128_12_0_0⟩,
     ⟨S10x8192x128, (Host.divf (extractStridedSlice S10x8192x128 ![18, 0, 0] t slices_S40x8192x128_S10x8192x128_18_0_0)
        (broadcastInDim S10x8192x128 ![] bcast_S_S10x8192x128 s) : FVec Ideal S10x8192x128 .f32)⟩,
     ⟨S4x8192x128, extractStridedSlice S4x8192x128 ![28, 0, 0] x slices_S40x8192x128_S4x8192x128_28_0_0⟩,
     ⟨S2x8192x128, extractStridedSlice S2x8192x128 ![32, 0, 0] t slices_S40x8192x128_S2x8192x128_32_0_0⟩,
     ⟨S2x8192x128, extractStridedSlice S2x8192x128 ![34, 0, 0] x slices_S40x8192x128_S2x8192x128_34_0_0⟩,
     ⟨S2x8192x128, extractStridedSlice S2x8192x128 ![36, 0, 0] t slices_S40x8192x128_S2x8192x128_36_0_0⟩,
     ⟨S2x8192x128, extractStridedSlice S2x8192x128 ![38, 0, 0] x slices_S40x8192x128_S2x8192x128_38_0_0⟩]
    concatenates_S6x8192x128_S6x8192x128_S6x8192x128_S10x8192x128_S4x8192x128_S2x8192x128_S2x8192x128_S2x8192x128_S2x8192x128_S40x8192x128_d0

/-- The reference's heads are the composition of these stages. -/
theorem out_eq (c : Dev nD) :
    res_out0 (F := Ideal) m c =
      grouped (turned (plain (m ((c.tc : Thread nD τ).loc main_arg0)) (m ((c.tc : Thread nD τ).loc main_arg1)))
          (m ((c.tc : Thread nD τ).loc main_arg2)) (m ((c.tc : Thread nD τ).loc main_arg3)))
        (plain (m ((c.tc : Thread nD τ).loc main_arg0)) (m ((c.tc : Thread nD τ).loc main_arg1))) divisor := rfl

/-- The logistic function of a second product, with a bias. -/
def gated (h : FVec Ideal S8192x2048 .f32) (w : FVec Ideal S256x2048 .bf16) (b : FVec Ideal S1x256 .f32) : FVec Ideal S8192x256 .f32 :=
  Host.divf (broadcastInDim S8192x256 ![] bcast_S_S8192x256 (constant S_ .f32 0x3F800000#32))
    (addf (broadcastInDim S8192x256 ![] bcast_S_S8192x256 (constant S_ .f32 0x3F800000#32))
      (Host.exp (Host.negf (addf (Host.dotGeneral dot_S8192x2048_S2048x256_S8192x256_1_0_0_1_n_n none h
          (transpose S2048x256 [1, 0] (extf .f32 w bitsLt_bf16_f32) transposes_S256x2048_S2048x256_1_0))
        (broadcastInDim S8192x256 ![0, 1] bcast_S1x256_S8192x256_0_1
          (broadcastInDim S1x256 ![1] bcast_S256_S1x256_1 (shapeCast _ b shapeCasts_S1x256_S256)))))))

/-- A gate at an index. -/
theorem gated_at (h : FVec Ideal S8192x2048 .f32) (w : FVec Ideal S256x2048 .bf16) (b : FVec Ideal S1x256 .f32) (r : Fin 8192) (n : Fin 256) :
    gated h w b (ix2 r n) = Ideal.logistic ((∑ l : Fin 2048, h (ix2 r l) * w (ix2 n l)) + b (ix2 0 n)) := by
  rw [← Ffn.logistic_eq]
  pointwise [gated]

/-- A weight at an index. -/
theorem weights_at (w : FVec Ideal S5150x2048 .bf16) (l : Fin 2048) (n : Fin 5120) :
    weights w (ix2 l n) = w (ix2 ⟨n.val, by omega⟩ l) := by
  pointwise [weights]

/-- An entry of a head before turning and scaling. -/
theorem plain_at (h : FVec Ideal S8192x2048 .f32) (w : FVec Ideal S5150x2048 .bf16) (n : Fin 40) (r : Fin 8192) (e : Fin 128) :
    plain h w (ix3 n r e) = ∑ l : Fin 2048, h (ix2 r l) * w (ix2 ⟨128 * n.val + e.val, by omega⟩ l) := by
  have e1 : plain h w (ix3 n r e) = ∑ l : Fin 2048, h (ix2 r l) * weights w (ix2 l ⟨128 * n.val + e.val, by omega⟩) := by
    pointwise [plain]
    simp only [Nat.mul_comm n.val 128]
  rw [e1]
  simp only [weights_at]

/-- The first half of the channels, at an index. -/
theorem lower_at (x : FVec Ideal S40x8192x128 .f32) (n : Fin 40) (r : Fin 8192) (e : Fin 64) :
    lower x (ix3 n r e) = x (ix3 n r ⟨e.val, by omega⟩) := by
  pointwise [lower]

/-- The second half of the channels, at an index. -/
theorem upper_at (x : FVec Ideal S40x8192x128 .f32) (n : Fin 40) (r : Fin 8192) (e : Fin 64) :
    upper x (ix3 n r e) = x (ix3 n r ⟨64 + e.val, by omega⟩) := by
  pointwise [upper]

/-- The first half of a table, at an index. -/
theorem tableLower_at (a : FVec Ideal S8192x128 .f32) (n : Fin 40) (r : Fin 8192) (e : Fin 64) :
    tableLower a (ix3 n r e) = a (ix2 r ⟨e.val, by omega⟩) := by
  pointwise [tableLower]

/-- The second half of a table, at an index. -/
theorem tableUpper_at (a : FVec Ideal S8192x128 .f32) (n : Fin 40) (r : Fin 8192) (e : Fin 64) :
    tableUpper a (ix3 n r e) = a (ix2 r ⟨64 + e.val, by omega⟩) := by
  pointwise [tableUpper]

/-- The divisor is the real number `√128 · log 2`. -/
theorem divisor_at (i : S_.Idx) : divisor i = (InMath.scale : EReal) := by
  have e : divisor i = Ideal.sqrt (Ideal.ofBits .f32 0x43000000#32) * Ideal.log (Ideal.ofBits .f32 0x40000000#32) := rfl
  have a : Ideal.ofBits .f32 0x43000000#32 = ((128 : ℝ) : EReal) := by
    simp [Ideal.ofBits, Ideal.ieee, -EReal.coe_mul]; norm_num
  have b : Ideal.ofBits .f32 0x40000000#32 = ((2 : ℝ) : EReal) := by
    simp [Ideal.ofBits, Ideal.ieee, -EReal.coe_mul]; norm_num
  rw [e, a, b, Ideal.sqrt_coe, Ideal.log_coe, if_neg (by norm_num), if_neg (by norm_num), ← EReal.coe_mul]
  rfl

/-- A turned entry: the first half of the channels meets the second, and the second the first. -/
theorem turned_at (x : FVec Ideal S40x8192x128 .f32) (co si : FVec Ideal S8192x128 .f32) (n : Fin 40) (r : Fin 8192) (d : Fin 128) :
    turned x co si (ix3 n r d) =
      InMath.turn (fun e => x (ix3 n r e)) (fun e => co (ix2 r e)) (fun e => si (ix2 r e)) d := by
  by_cases hd : d.val < 64
  · obtain ⟨k, hk⟩ : ∃ k : Fin 64, d = ⟨k.val, by omega⟩ := ⟨⟨d.val, hd⟩, rfl⟩
    have e : turned x co si (ix3 n r ⟨k.val, by omega⟩) =
        lower x (ix3 n r k) * tableLower co (ix3 n r k) + upper x (ix3 n r k) * tableLower si (ix3 n r k) := by
      pointwise [turned]
    have ha : InMath.across ⟨k.val, by omega⟩ = ⟨64 + k.val, by omega⟩ := Fin.ext (by show (k.val + 64) % 128 = 64 + k.val; omega)
    rw [hk, e, lower_at, upper_at, tableLower_at, tableLower_at]
    unfold InMath.turn
    rw [ha]
  · obtain ⟨k, hk⟩ : ∃ k : Fin 64, d = ⟨64 + k.val, by omega⟩ := ⟨⟨d.val - 64, by omega⟩, Fin.ext (by show d.val = 64 + (d.val - 64); omega)⟩
    have e : turned x co si (ix3 n r ⟨64 + k.val, by omega⟩) =
        upper x (ix3 n r k) * tableUpper co (ix3 n r k) + lower x (ix3 n r k) * tableUpper si (ix3 n r k) := by
      pointwise [turned]
    have ha : InMath.across ⟨64 + k.val, by omega⟩ = ⟨k.val, by omega⟩ := Fin.ext (by show (64 + k.val + 64) % 128 = k.val; omega)
    rw [hk, e, lower_at, upper_at, tableUpper_at, tableUpper_at]
    unfold InMath.turn
    rw [ha]

set_option maxHeartbeats 2000000 in
/-- Which of the groups a head lies in. -/
theorem grouped_at (t x : FVec Ideal S40x8192x128 .f32) (s : FVec Ideal S_ .f32) (v : EReal) (hs : ∀ i, s i = v)
    (n : Fin 40) (r : Fin 8192) (d : Fin 128) :
    grouped t x s (ix3 n r d) = if InMath.Query n.val then Ideal.div (t (ix3 n r d)) v
      else if InMath.Turned n.val then t (ix3 n r d) else x (ix3 n r d) := by
  pointwise [grouped]
  have hf : ∀ (a : ℕ) (h : a < 40), a = n.val → (⟨a, h⟩ : Fin 40) = n := fun _ _ e => Fin.ext e
  rw [hs]
  have hQ : InMath.Query n.val ↔ n.val < 6 ∨ (18 ≤ n.val ∧ n.val < 28) := Iff.rfl
  have hT : InMath.Turned n.val ↔ InMath.Query n.val ∨ n.val < 12 ∨ (32 ≤ n.val ∧ n.val < 34) ∨ (36 ≤ n.val ∧ n.val < 38) := Iff.rfl
  by_cases q : InMath.Query n.val
  · rw [if_pos q]
    have q' := hQ.1 q
    split_ifs <;> first | rfl | (exfalso; omega) | rw [hf _ _ (by omega)]
  · rw [if_neg q]
    have q' : ¬(n.val < 6 ∨ (18 ≤ n.val ∧ n.val < 28)) := fun h => q (hQ.2 h)
    by_cases a : InMath.Turned n.val
    · rw [if_pos a]
      have a' := (hT.1 a).resolve_left q
      split_ifs <;> first | rfl | (exfalso; omega) | rw [hf _ _ (by omega)]
    · rw [if_neg a]
      have a' : ¬(n.val < 12 ∨ (32 ≤ n.val ∧ n.val < 34) ∨ (36 ≤ n.val ∧ n.val < 38)) := fun h => a (hT.2 (Or.inr h))
      split_ifs <;> first | rfl | (exfalso; omega) | rw [hf _ _ (by omega)]

/-- The reference's heads: every entry is the projection's entry, turned and scaled as its head wants. -/
theorem out_at (h : FVec Ideal S8192x2048 .f32) (w : FVec Ideal S5150x2048 .bf16) (co si : FVec Ideal S8192x128 .f32)
    (n : Fin 40) (r : Fin 8192) (d : Fin 128) :
    grouped (turned (plain h w) co si) (plain h w) divisor (ix3 n r d) =
      InMath.entry n.val (fun e => ∑ l : Fin 2048, h (ix2 r l) * w (ix2 ⟨128 * n.val + e.val, by omega⟩ l))
        (fun e => co (ix2 r e)) (fun e => si (ix2 r e)) d := by
  rw [grouped_at _ _ _ _ divisor_at, turned_at]
  simp only [plain_at]
  unfold InMath.entry
  by_cases hq : InMath.Query n.val
  · have ht : InMath.Turned n.val := Or.inl hq
    rw [if_pos hq, if_pos hq, if_pos ht, Ideal.div_coe InMath.scale_ne, one_div]
  · rw [if_neg hq, if_neg hq, mul_one]

end Cert.RefInProjIdeal.Own
-- ==== Proof.InClaim.lean ====
module

public import proofs.«01_k».proof.Defs
public import proofs.«01_k».proof.Proof.InBits
public import proofs.«01_k».proof.Proof.InFrame
public import proofs.«01_k».proof.Proof.InRef
public import Idealize.ShloMosaic.Adequacy
public import Idealize.ShloMosaic.Init
public import Idealize.ShloMosaic.Lib.Claim

@[expose] public section

/-!
# The claims about the input projection

The kernel projects eight heads at a time and turns them through its gates of zero and one, the reference
projects all heads at once and treats them group by group; every entry is the same.
-/

set_option maxRecDepth 16384

noncomputable section

namespace Cert.Proof.InProj

open Idealize.ShloMosaic Idealize.SL.Sem

/-- The kernel on compiled floats ends, its arguments unchanged. -/
theorem frame : Cert.quiescent_InProj := fun m ρ _ => InBits.frame m ρ

/-- So does the kernel on ideal floats, -/
theorem frame_ideal : Cert.quiescent_InProjIdeal := fun m ρ _ => InP.frame_ideal m ρ

/-- and the reference. -/
theorem frame_ref : Cert.quiescent_RefInProjIdeal := fun m ρ _ =>
  (θ_run Cert.RefInProjIdeal.defs _ _).mono
    (fun r h => ⟨fun c => (h c).2.2, Idealize.ShloMosaic.sem_eq_zero_of_no_sems (by decide) r.2⟩)
    (Cert.RefInProjIdeal.Value.run (F := Ideal) m ρ)

/-- The one named constant is the reciprocal of `√128 · log 2`. -/
theorem preserves : Cert.preserves_InProj_InProjIdeal :=
  IdealRules.named_const.statement Cert.InProjIdeal.κ "qscale" .f32 0x3E0293EE#32
    ((((Real.sqrt 128) * (Real.log 2))⁻¹ : ℝ) : EReal) rfl

/-- On the same arguments the kernel and the reference end with the same heads and the same gates. -/
theorem algebraic : Cert.algebraic_InProjIdeal_RefInProjIdeal := by
  pair_intro
  · run_from InP.run_blocks m g
  · run_from Cert.RefInProjIdeal.Value.run m' g'
    · refine (Cert.RefInProjIdeal.Own.out_eq m' c).trans ?_
      obtain ⟨e0, e1, e2, e3, -, -⟩ := hagree c
      rw [e0, e1, e2, e3]
      funext j
      obtain ⟨n, r, d, rfl⟩ : ∃ (n : Fin 40) (r : Fin 8192) (d : Fin 128), j = ix3 n r d := ⟨j 0, j 1, j 2, eq_ix3 j⟩
      exact Cert.RefInProjIdeal.Own.out_at _ _ _ _ n r d
    · funext j
      obtain ⟨r, n, rfl⟩ : ∃ (r : Fin 8192) (n : Fin 256), j = ix2 r n := ⟨j 0, j 1, eq_ix2 j⟩
      exact Cert.RefInProjIdeal.Own.gated_at _ _ _ r n

end Cert.Proof.InProj

end
-- ==== Proof.lean ====
module

public import proofs.«01_k».proof.Defs
public import proofs.«01_k».proof.Proof.FfnClaim
public import proofs.«01_k».proof.Proof.DilClaim
public import proofs.«01_k».proof.Proof.OutClaim
public import proofs.«01_k».proof.Proof.InClaim

@[expose] public section

/-!
# Everything that is claimed

The input projection, the dilated attention, the output projection and the feed-forward call: frames, the idealizations, and the equations with the
plain references.
-/

noncomputable section

namespace Cert.Proof

/-- The claims of all calls. -/
theorem claim : Cert.Claim :=
  ⟨Cert.Kernel.Gen.facts, Cert.KernelIdeal.Gen.facts, Cert.ReferenceIdeal.Gen.facts,
    Cert.Ffn.Gen.facts, Cert.FfnIdeal.Gen.facts, Cert.RefFfnIdeal.Gen.facts,
    Cert.InProj.Gen.facts, Cert.InProjIdeal.Gen.facts, Cert.RefInProjIdeal.Gen.facts,
    Cert.OutProj.Gen.facts, Cert.OutProjIdeal.Gen.facts, Cert.RefOutProjIdeal.Gen.facts, Cert.Pre_finite_qk.Own.facts,
    Dilated.frame, Dilated.frame_ideal, @Dilated.frame_ideal_pre Cert.Pre_finite_qk.Own.facts, Dilated.frame_ref,
    @Dilated.frame_ref_pre Cert.Pre_finite_qk.Own.facts, Ffn.frame, Ffn.frame_ideal, Ffn.frame_ref,
    InProj.frame, InProj.frame_ideal, InProj.frame_ref,
    OutProj.frame, OutProj.frame_ideal, OutProj.frame_ref, Dilated.preserves,
    @Dilated.algebraic Cert.Pre_finite_qk.Own.facts, Ffn.preserves, Ffn.algebraic,
    InProj.preserves, InProj.algebraic,
    OutProj.preserves, OutProj.algebraic⟩

end Cert.Proof

end
